-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x8x128 : S_.BroadcastsInDim S1x1024x8x128 (![] : Fin 0 → Fin S1x1024x8x128.rank)

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S1x1024x1024 1 × IVec S1x1024x1024 1 × IVec S1024x1024 1 × IVec S1024x1024 1 × IVec S1x1024x8x128 1 × IVec S1x1024x8x128 1 :=
  let main_cst : FVec F S_ .f32 := constant S_ .f32 0xFF800000#32
  let main_v0 : FVec F S1x1024x1024 .f32 := broadcastInDim S1x1024x1024 ![] bcast_S_S1x1024x1024 main_cst
  let main_v1 : IVec S1x1024x1024 1 := cmpf .ogt main_arg0 main_v0
  let main_cst_0 : FVec F S_ .f32 := constant S_ .f32 0x7F800000#32
  let main_v2 : FVec F S1x1024x1024 .f32 := broadcastInDim S1x1024x1024 ![] bcast_S_S1x1024x1024 main_cst_0
  let main_v3 : IVec S1x1024x1024 1 := cmpf .olt main_arg0 main_v2
  let main_cst_1 : FVec F S_ .f32 := constant S_ .f32 0xFF800000#32
  let main_v4 : FVec F S1024x1024 .f32 := broadcastInDim S1024x1024 ![] bcast_S_S1024x1024 main_cst_1
  let main_v5 : IVec S1024x1024 1 := cmpf .ogt main_arg1 main_v4
  let main_cst_2 : FVec F S_ .f32 := constant S_ .f32 0x7F800000#32
  let main_v6 : FVec F S1024x1024 .f32 := broadcastInDim S1024x1024 ![] bcast_S_S1024x1024 main_cst_2
  let main_v7 : IVec S1024x1024 1 := cmpf .olt main_arg1 main_v6
  let main_cst_3 : FVec F S_ .f32 := constant S_ .f32 0xFF800000#32
  let main_v8 : FVec F S1x1024x8x128 .f32 := broadcastInDim S1x1024x8x128 ![] bcast_S_S1x1024x8x128 main_cst_3
  let main_v9 : IVec S1x1024x8x128 1 := cmpf .ogt main_arg2 main_v8
  let main_cst_4 : FVec F S_ .f32 := constant S_ .f32 0x7F800000#32
  let main_v10 : FVec F S1x1024x8x128 .f32 := broadcastInDim S1x1024x8x128 ![] bcast_S_S1x1024x8x128 main_cst_4
  let main_v11 : IVec S1x1024x8x128 1 := cmpf .olt main_arg2 main_v10
  (main_v1, main_v3, main_v5, main_v7, main_v9, main_v11)
-- ==== Pre_finite_inputs_ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x8192x8x128 : S_.BroadcastsInDim S1x8192x8x128 (![] : Fin 0 → Fin S1x8192x8x128.rank)

variable [Facts]

def fn {F : FTy → Type} [FloatOps F] (main_arg0 : FVec F S1x1024x1024 .f32) (main_arg1 : FVec F S1024x1024 .f32) (main_arg2 : FVec F S1x8192x8x128 .f32) (main_arg3 : FVec F S1x8192x8x128 .f32) (main_arg4 : FVec F S1024x1024 .f32) : IVec S1x1024x1024 1 × IVec S1x1024x1024 1 × IVec S1024x1024 1 × IVec S1024x1024 1 × IVec S1x8192x8x128 1 × IVec S1x8192x8x128 1 :=
  let main_cst : FVec F S_ .f32 := constant S_ .f32 0xFF800000#32
  let main_v0 : FVec F S1x1024x1024 .f32 := broadcastInDim S1x1024x1024 ![] bcast_S_S1x1024x1024 main_cst
  let main_v1 : IVec S1x1024x1024 1 := cmpf .ogt main_arg0 main_v0
  let main_cst_0 : FVec F S_ .f32 := constant S_ .f32 0x7F800000#32
  let main_v2 : FVec F S1x1024x1024 .f32 := broadcastInDim S1x1024x1024 ![] bcast_S_S1x1024x1024 main_cst_0
  let main_v3 : IVec S1x1024x1024 1 := cmpf .olt main_arg0 main_v2
  let main_cst_1 : FVec F S_ .f32 := constant S_ .f32 0xFF800000#32
  let main_v4 : FVec F S1024x1024 .f32 := broadcastInDim S1024x1024 ![] bcast_S_S1024x1024 main_cst_1
  let main_v5 : IVec S1024x1024 1 := cmpf .ogt main_arg1 main_v4
  let main_cst_2 : FVec F S_ .f32 := constant S_ .f32 0x7F800000#32
  let main_v6 : FVec F S1024x1024 .f32 := broadcastInDim S1024x1024 ![] bcast_S_S1024x1024 main_cst_2
  let main_v7 : IVec S1024x1024 1 := cmpf .olt main_arg1 main_v6
  let main_cst_3 : FVec F S_ .f32 := constant S_ .f32 0xFF800000#32
  let main_v8 : FVec F S1x8192x8x128 .f32 := broadcastInDim S1x8192x8x128 ![] bcast_S_S1x8192x8x128 main_cst_3
  let main_v9 : IVec S1x8192x8x128 1 := cmpf .ogt main_arg2 main_v8
  let main_cst_4 : FVec F S_ .f32 := constant S_ .f32 0x7F800000#32
  let main_v10 : FVec F S1x8192x8x128 .f32 := broadcastInDim S1x8192x8x128 ![] bcast_S_S1x8192x8x128 main_cst_4
  let main_v11 : IVec S1x8192x8x128 1 := cmpf .olt main_arg2 main_v10
  (main_v1, main_v3, main_v5, main_v7, main_v9, main_v11)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1024x8x128 : Shape := ⟨3, ![1024, 8, 128]⟩
abbrev S1024x16 : Shape := ⟨2, ![1024, 16]⟩
abbrev S8x128x8x128 : Shape := ⟨4, ![8, 128, 8, 128]⟩
abbrev S8x128x16 : Shape := ⟨3, ![8, 128, 16]⟩
abbrev S128x1024 : Shape := ⟨2, ![128, 1024]⟩
abbrev S8 : Shape := ⟨1, ![8]⟩
abbrev S_ : Shape := ⟨0, ![]⟩
abbrev S64x1024 : Shape := ⟨2, ![64, 1024]⟩
abbrev S256x1024 : Shape := ⟨2, ![256, 1024]⟩
abbrev S64x8x128 : Shape := ⟨3, ![64, 8, 128]⟩
abbrev S256x8x128 : Shape := ⟨3, ![256, 8, 128]⟩
abbrev S256x128 : Shape := ⟨2, ![256, 128]⟩
abbrev S256x1x128 : Shape := ⟨3, ![256, 1, 128]⟩
abbrev S256x256 : Shape := ⟨2, ![256, 256]⟩
abbrev S256 : Shape := ⟨1, ![256]⟩
abbrev S256x1 : Shape := ⟨2, ![256, 1]⟩
abbrev S256x8 : Shape := ⟨2, ![256, 8]⟩
abbrev S64x8 : Shape := ⟨2, ![64, 8]⟩
abbrev S1 : Shape := ⟨1, ![1]⟩
abbrev S1x128x8x128 : Shape := ⟨4, ![1, 128, 8, 128]⟩
abbrev S128x8x128 : Shape := ⟨3, ![128, 8, 128]⟩
abbrev S1x128x16 : Shape := ⟨3, ![1, 128, 16]⟩
abbrev S128x16 : Shape := ⟨2, ![128, 16]⟩
abbrev S1x128x8 : Shape := ⟨3, ![1, 128, 8]⟩
abbrev S128x8 : Shape := ⟨2, ![128, 8]⟩
abbrev S128x8x1 : Shape := ⟨3, ![128, 8, 1]⟩
abbrev S1x128x1024 : Shape := ⟨3, ![1, 128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1024x1024, .f32⟩
  | .local _ .vmem, ⟨5, _⟩ => ⟨S1x1024x1024, .f32⟩
  | .local _ .vmem, ⟨6, _⟩ => ⟨S1024x8x128, .f32⟩
  | .local _ .vmem, ⟨7, _⟩ => ⟨S1024x16, .f32⟩
  | .local _ .vmem, ⟨8, _⟩ => ⟨S8x128x8x128, .f32⟩
  | .local _ .vmem, ⟨9, _⟩ => ⟨S8x128x16, .f32⟩
  | .local _ .vmem, ⟨10, _⟩ => ⟨S128x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_303 : BitVec 32 := 0#32
  let c0_i32_304 : BitVec 32 := 0#32
  let c0_i32_305 : BitVec 32 := 0#32
  ![v2.toNat, 0, 0, 0]
def k0_off3 (d0 : Dev nD) (c0_i32_297 : BitVec 32) : Fin 3 → Nat :=
  let c128_i32 : BitVec 32 := 128#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v849 : BitVec 32 := Scalar.addi v2 c0_i32_297
  let c8_i32_298 : BitVec 32 := 8#32
  let v850 : BitVec 32 := Scalar.remsi v849 c8_i32_298
  let v851 : BitVec 32 := Scalar.muli c128_i32 v850
  let c0_i32_306 : BitVec 32 := 0#32
  let c0_i32_307 : BitVec 32 := 0#32
  ![v851.toNat, 0, 0]
def k0_dev8 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_297 : BitVec 32 := 0#32
  let v849 : BitVec 32 := Scalar.addi v2 c0_i32_297
  let c8_i32_298 : BitVec 32 := 8#32
  let v850 : BitVec 32 := Scalar.remsi v849 c8_i32_298
  let c1_i32_301 : BitVec 32 := 1#32
  let v853 : BitVec 32 := Scalar.muli v850 c1_i32_301
  let v854 : BitVec 32 := Scalar.addi c0_i32_302 v853
  v854.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_311 : BitVec 32 := 0#32
  let c0_i32_312 : BitVec 32 := 0#32
  ![v2.toNat, 0, 0]
def k0_off5 (d0 : Dev nD) (c0_i32_297 : BitVec 32) : Fin 2 → Nat :=
  let c128_i32_299 : BitVec 32 := 128#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v849 : BitVec 32 := Scalar.addi v2 c0_i32_297
  let c8_i32_298 : BitVec 32 := 8#32
  let v850 : BitVec 32 := Scalar.remsi v849 c8_i32_298
  let v852 : BitVec 32 := Scalar.muli c128_i32_299 v850
  let c0_i32_313 : BitVec 32 := 0#32
  ![v852.toNat, 0]
def k0_dev9 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_297 : BitVec 32 := 0#32
  let v849 : BitVec 32 := Scalar.addi v2 c0_i32_297
  let c8_i32_298 : BitVec 32 := 8#32
  let v850 : BitVec 32 := Scalar.remsi v849 c8_i32_298
  let c1_i32_309 : BitVec 32 := 1#32
  let v862 : BitVec 32 := Scalar.muli v850 c1_i32_309
  let v863 : BitVec 32 := Scalar.addi c0_i32_310 v862
  v863.toNat
def k0_dev10 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_314 : BitVec 32 := 1#32
  let v871 : BitVec 32 := Scalar.addi v2 c1_i32_314
  let c8_i32_315 : BitVec 32 := 8#32
  let v872 : BitVec 32 := Scalar.remsi v871 c8_i32_315
  let c1_i32_319 : BitVec 32 := 1#32
  let v875 : BitVec 32 := Scalar.muli v872 c1_i32_319
  let v876 : BitVec 32 := Scalar.addi c0_i32_320 v875
  v876.toNat
def k0_dev11 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_314 : BitVec 32 := 1#32
  let v871 : BitVec 32 := Scalar.addi v2 c1_i32_314
  let c8_i32_315 : BitVec 32 := 8#32
  let v872 : BitVec 32 := Scalar.remsi v871 c8_i32_315
  let c1_i32_327 : BitVec 32 := 1#32
  let v884 : BitVec 32 := Scalar.muli v872 c1_i32_327
  let v885 : BitVec 32 := Scalar.addi c0_i32_328 v884
  v885.toNat
def k0_dev12 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_332 : BitVec 32 := 2#32
  let v893 : BitVec 32 := Scalar.addi v2 c2_i32_332
  let c8_i32_333 : BitVec 32 := 8#32
  let v894 : BitVec 32 := Scalar.remsi v893 c8_i32_333
  let c1_i32_337 : BitVec 32 := 1#32
  let v897 : BitVec 32 := Scalar.muli v894 c1_i32_337
  let v898 : BitVec 32 := Scalar.addi c0_i32_338 v897
  v898.toNat
def k0_dev13 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_332 : BitVec 32 := 2#32
  let v893 : BitVec 32 := Scalar.addi v2 c2_i32_332
  let c8_i32_333 : BitVec 32 := 8#32
  let v894 : BitVec 32 := Scalar.remsi v893 c8_i32_333
  let c1_i32_345 : BitVec 32 := 1#32
  let v906 : BitVec 32 := Scalar.muli v894 c1_i32_345
  let v907 : BitVec 32 := Scalar.addi c0_i32_346 v906
  v907.toNat
def k0_dev14 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_350 : BitVec 32 := 3#32
  let v915 : BitVec 32 := Scalar.addi v2 c3_i32_350
  let c8_i32_351 : BitVec 32 := 8#32
  let v916 : BitVec 32 := Scalar.remsi v915 c8_i32_351
  let c1_i32_355 : BitVec 32 := 1#32
  let v919 : BitVec 32 := Scalar.muli v916 c1_i32_355
  let v920 : BitVec 32 := Scalar.addi c0_i32_356 v919
  v920.toNat
def k0_dev15 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_350 : BitVec 32 := 3#32
  let v915 : BitVec 32 := Scalar.addi v2 c3_i32_350
  let c8_i32_351 : BitVec 32 := 8#32
  let v916 : BitVec 32 := Scalar.remsi v915 c8_i32_351
  let c1_i32_363 : BitVec 32 := 1#32
  let v928 : BitVec 32 := Scalar.muli v916 c1_i32_363
  let v929 : BitVec 32 := Scalar.addi c0_i32_364 v928
  v929.toNat
def k0_dev16 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_368 : BitVec 32 := 4#32
  let v937 : BitVec 32 := Scalar.addi v2 c4_i32_368
  let c8_i32_369 : BitVec 32 := 8#32
  let v938 : BitVec 32 := Scalar.remsi v937 c8_i32_369
  let c1_i32_373 : BitVec 32 := 1#32
  let v941 : BitVec 32 := Scalar.muli v938 c1_i32_373
  let v942 : BitVec 32 := Scalar.addi c0_i32_374 v941
  v942.toNat
def k0_dev17 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_368 : BitVec 32 := 4#32
  let v937 : BitVec 32 := Scalar.addi v2 c4_i32_368
  let c8_i32_369 : BitVec 32 := 8#32
  let v938 : BitVec 32 := Scalar.remsi v937 c8_i32_369
  let c1_i32_381 : BitVec 32 := 1#32
  let v950 : BitVec 32 := Scalar.muli v938 c1_i32_381
  let v951 : BitVec 32 := Scalar.addi c0_i32_382 v950
  v951.toNat
def k0_dev18 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_386 : BitVec 32 := 5#32
  let v959 : BitVec 32 := Scalar.addi v2 c5_i32_386
  let c8_i32_387 : BitVec 32 := 8#32
  let v960 : BitVec 32 := Scalar.remsi v959 c8_i32_387
  let c1_i32_391 : BitVec 32 := 1#32
  let v963 : BitVec 32 := Scalar.muli v960 c1_i32_391
  let v964 : BitVec 32 := Scalar.addi c0_i32_392 v963
  v964.toNat
def k0_dev19 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_386 : BitVec 32 := 5#32
  let v959 : BitVec 32 := Scalar.addi v2 c5_i32_386
  let c8_i32_387 : BitVec 32 := 8#32
  let v960 : BitVec 32 := Scalar.remsi v959 c8_i32_387
  let c1_i32_399 : BitVec 32 := 1#32
  let v972 : BitVec 32 := Scalar.muli v960 c1_i32_399
  let v973 : BitVec 32 := Scalar.addi c0_i32_400 v972
  v973.toNat
def k0_dev20 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_404 : BitVec 32 := 6#32
  let v981 : BitVec 32 := Scalar.addi v2 c6_i32_404
  let c8_i32_405 : BitVec 32 := 8#32
  let v982 : BitVec 32 := Scalar.remsi v981 c8_i32_405
  let c1_i32_409 : BitVec 32 := 1#32
  let v985 : BitVec 32 := Scalar.muli v982 c1_i32_409
  let v986 : BitVec 32 := Scalar.addi c0_i32_410 v985
  v986.toNat
def k0_dev21 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_404 : BitVec 32 := 6#32
  let v981 : BitVec 32 := Scalar.addi v2 c6_i32_404
  let c8_i32_405 : BitVec 32 := 8#32
  let v982 : BitVec 32 := Scalar.remsi v981 c8_i32_405
  let c1_i32_417 : BitVec 32 := 1#32
  let v994 : BitVec 32 := Scalar.muli v982 c1_i32_417
  let v995 : BitVec 32 := Scalar.addi c0_i32_418 v994
  v995.toNat
def k0_dev22 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_422 : BitVec 32 := 7#32
  let v1003 : BitVec 32 := Scalar.addi v2 c7_i32_422
  let c8_i32_423 : BitVec 32 := 8#32
  let v1004 : BitVec 32 := Scalar.remsi v1003 c8_i32_423
  let c1_i32_427 : BitVec 32 := 1#32
  let v1007 : BitVec 32 := Scalar.muli v1004 c1_i32_427
  let v1008 : BitVec 32 := Scalar.addi c0_i32_428 v1007
  v1008.toNat
def k0_dev23 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_422 : BitVec 32 := 7#32
  let v1003 : BitVec 32 := Scalar.addi v2 c7_i32_422
  let c8_i32_423 : BitVec 32 := 8#32
  let v1004 : BitVec 32 := Scalar.remsi v1003 c8_i32_423
  let c1_i32_435 : BitVec 32 := 1#32
  let v1016 : BitVec 32 := Scalar.muli v1004 c1_i32_435
  let v1017 : BitVec 32 := Scalar.addi c0_i32_436 v1016
  v1017.toNat
def k0_off6 (d0 : Dev nD) : Fin 3 → Nat :=
  let c0_i32_683 : BitVec 32 := 0#32
  let c128_i32_682 : BitVec 32 := 128#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1270 : BitVec 32 := Scalar.muli c128_i32_682 v2
  let c0_i32_687 : BitVec 32 := 0#32
  ![0, v1270.toNat, 0]
def k0_dev24 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_680 : BitVec 32 := 0#32
  let v1268 : BitVec 32 := Scalar.addi v2 c0_i32_680
  let c8_i32_681 : BitVec 32 := 8#32
  let v1269 : BitVec 32 := Scalar.remsi v1268 c8_i32_681
  let c1_i32_685 : BitVec 32 := 1#32
  let v1271 : BitVec 32 := Scalar.muli v1269 c1_i32_685
  let v1272 : BitVec 32 := Scalar.addi c0_i32_686 v1271
  v1272.toNat
def k0_dev25 (d0 : Dev nD) : Nat :=
  let c0_i32_694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_688 : BitVec 32 := 1#32
  let v1279 : BitVec 32 := Scalar.addi v2 c1_i32_688
  let c8_i32_689 : BitVec 32 := 8#32
  let v1280 : BitVec 32 := Scalar.remsi v1279 c8_i32_689
  let c1_i32_693 : BitVec 32 := 1#32
  let v1282 : BitVec 32 := Scalar.muli v1280 c1_i32_693
  let v1283 : BitVec 32 := Scalar.addi c0_i32_694 v1282
  v1283.toNat
def k0_dev26 (d0 : Dev nD) : Nat :=
  let c0_i32_702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_696 : BitVec 32 := 2#32
  let v1290 : BitVec 32 := Scalar.addi v2 c2_i32_696
  let c8_i32_697 : BitVec 32 := 8#32
  let v1291 : BitVec 32 := Scalar.remsi v1290 c8_i32_697
  let c1_i32_701 : BitVec 32 := 1#32
  let v1293 : BitVec 32 := Scalar.muli v1291 c1_i32_701
  let v1294 : BitVec 32 := Scalar.addi c0_i32_702 v1293
  v1294.toNat
def k0_dev27 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_704 : BitVec 32 := 3#32
  let v1301 : BitVec 32 := Scalar.addi v2 c3_i32_704
  let c8_i32_705 : BitVec 32 := 8#32
  let v1302 : BitVec 32 := Scalar.remsi v1301 c8_i32_705
  let c1_i32_709 : BitVec 32 := 1#32
  let v1304 : BitVec 32 := Scalar.muli v1302 c1_i32_709
  let v1305 : BitVec 32 := Scalar.addi c0_i32_710 v1304
  v1305.toNat
def k0_dev28 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_712 : BitVec 32 := 4#32
  let v1312 : BitVec 32 := Scalar.addi v2 c4_i32_712
  let c8_i32_713 : BitVec 32 := 8#32
  let v1313 : BitVec 32 := Scalar.remsi v1312 c8_i32_713
  let c1_i32_717 : BitVec 32 := 1#32
  let v1315 : BitVec 32 := Scalar.muli v1313 c1_i32_717
  let v1316 : BitVec 32 := Scalar.addi c0_i32_718 v1315
  v1316.toNat
def k0_dev29 (d0 : Dev nD) : Nat :=
  let c0_i32_726 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_720 : BitVec 32 := 5#32
  let v1323 : BitVec 32 := Scalar.addi v2 c5_i32_720
  let c8_i32_721 : BitVec 32 := 8#32
  let v1324 : BitVec 32 := Scalar.remsi v1323 c8_i32_721
  let c1_i32_725 : BitVec 32 := 1#32
  let v1326 : BitVec 32 := Scalar.muli v1324 c1_i32_725
  let v1327 : BitVec 32 := Scalar.addi c0_i32_726 v1326
  v1327.toNat
def k0_dev30 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v1334 : BitVec 32 := Scalar.addi v2 c6_i32_728
  let c8_i32_729 : BitVec 32 := 8#32
  let v1335 : BitVec 32 := Scalar.remsi v1334 c8_i32_729
  let c1_i32_733 : BitVec 32 := 1#32
  let v1337 : BitVec 32 := Scalar.muli v1335 c1_i32_733
  let v1338 : BitVec 32 := Scalar.addi c0_i32_734 v1337
  v1338.toNat
def k0_dev31 (d0 : Dev nD) : Nat :=
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_736 : BitVec 32 := 7#32
  let v1345 : BitVec 32 := Scalar.addi v2 c7_i32_736
  let c8_i32_737 : BitVec 32 := 8#32
  let v1346 : BitVec 32 := Scalar.remsi v1345 c8_i32_737
  let c1_i32_741 : BitVec 32 := 1#32
  let v1348 : BitVec 32 := Scalar.muli v1346 c1_i32_741
  let v1349 : BitVec 32 := Scalar.addi c0_i32_742 v1348
  v1349.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S8192 : Shape := ⟨1, ![8192]⟩
abbrev S1x8192 : Shape := ⟨2, ![1, 8192]⟩
abbrev S1024x8192 : Shape := ⟨2, ![1024, 8192]⟩
abbrev S1x8x1024x8192 : Shape := ⟨4, ![1, 8, 1024, 8192]⟩
abbrev S1x1x1024x8192 : Shape := ⟨4, ![1, 1, 1024, 8192]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 137
  | .vmem => 0
  | .smem => 0
  | _ => 0

abbrev hbmTy0_0 (i : Nat) : BufTy := match i % 128 with
  | 0 => ⟨S1x1024x1024, .f32⟩
  | 1 => ⟨S1024x1024, .f32⟩
  | 2 => ⟨S1x8192x8x128, .f32⟩
  | 3 => ⟨S1x8192x8x128, .f32⟩
  | 4 => ⟨S1024x1024, .f32⟩
  | 5 => ⟨S1x1024x1024, .f32⟩
  | 6 => ⟨S1x1024x8x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S8192, .i32⟩
  | 28 => ⟨S_, .i32⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i1⟩
  | 36 => ⟨S8192, .i32⟩
  | 37 => ⟨S8192, .i32⟩
  | 38 => ⟨S_, .i32⟩
  | 39 => ⟨S8192, .i32⟩
  | 40 => ⟨S8192, .i1⟩
  | 41 => ⟨S8192, .i1⟩
  | 42 => ⟨S_, .i32⟩
  | 43 => ⟨S8192, .i32⟩
  | 44 => ⟨S8192, .i32⟩
  | 45 => ⟨S8192, .i32⟩
  | 46 => ⟨S1x8192, .i32⟩
  | 47 => ⟨S1024x8192, .i32⟩
  | 48 => ⟨S1024x8192, .i32⟩
  | 49 => ⟨S1024x8192, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x8192, .i32⟩
  | 57 => ⟨S1x8192, .i32⟩
  | 58 => ⟨S_, .i32⟩
  | 59 => ⟨S1x8192, .i32⟩
  | 60 => ⟨S1x8192, .i1⟩
  | 61 => ⟨S_, .i32⟩
  | 62 => ⟨S1x8192, .i32⟩
  | 63 => ⟨S1x8192, .i1⟩
  | 64 => ⟨S_, .i32⟩
  | 65 => ⟨S_, .i1⟩
  | 66 => ⟨S1x8192, .i1⟩
  | 67 => ⟨S1x8192, .i1⟩
  | 68 => ⟨S1x8192, .i1⟩
  | 69 => ⟨S1x8192, .i32⟩
  | 70 => ⟨S1x8192, .i32⟩
  | 71 => ⟨S1x8192, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x8192, .i32⟩
  | 95 => ⟨S1024x8192, .i32⟩
  | 96 => ⟨S1024x8192, .i1⟩
  | 97 => ⟨S1024x8192, .i1⟩
  | 98 => ⟨S1x8x1024x8192, .f32⟩
  | 99 => ⟨S_, .f32⟩
  | 100 => ⟨S1x8x1024x8192, .f32⟩
  | 101 => ⟨S1x8x1024x8192, .f32⟩
  | 102 => ⟨S1x1x1024x8192, .i1⟩
  | 103 => ⟨S_, .f32⟩
  | 104 => ⟨S_, .f32⟩
  | 105 => ⟨S1x8x1024x8192, .i1⟩
  | 106 => ⟨S1x8x1024x8192, .f32⟩
  | 107 => ⟨S1x8x1024x8192, .f32⟩
  | 108 => ⟨S_, .f32⟩
  | 109 => ⟨S1x8x1024, .f32⟩
  | 110 => ⟨S1x8x1024x1, .f32⟩
  | 111 => ⟨S1x8x1024x8192, .f32⟩
  | 112 => ⟨S1x8x1024x8192, .f32⟩
  | 113 => ⟨S1x8x1024x8192, .f32⟩
  | 114 => ⟨S_, .i1⟩
  | 115 => ⟨S1024, .i1⟩
  | 116 => ⟨S1x1x1024x1, .i1⟩
  | 117 => ⟨S_, .f32⟩
  | 118 => ⟨S1x8x1024, .f32⟩
  | 119 => ⟨S1x8x1024x1, .f32⟩
  | 120 => ⟨S_, .f32⟩
  | 121 => ⟨S_, .f32⟩
  | 122 => ⟨S1x8x1024x1, .i1⟩
  | 123 => ⟨S1x8x1024x1, .f32⟩
  | 124 => ⟨S1x8x1024x1, .f32⟩
  | 125 => ⟨S1x8x1024x8192, .f32⟩
  | 126 => ⟨S1x8x1024x8192, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x8x1024x8192, .i1⟩
  | 3 => ⟨S1x8x1024x8192, .f32⟩
  | 4 => ⟨S1x8x1024x8192, .f32⟩
  | 5 => ⟨S1x8x128x1024, .f32⟩
  | 6 => ⟨S1x1024x8x128, .f32⟩
  | 7 => ⟨S1x1024x1024, .f32⟩
  | 8 => ⟨S1x1024x1024, .f32⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Common.lean ====
/-
# The device program: names, cells and contents

Eight devices on one axis. Every device holds a block of the keys and of the values, and all queries. This file names
the memory the device program works on, the semaphores, and the peers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ShareLeaves
public import Idealize.ShloMosaic.Lib.Tactic
public import Idealize.ShloMosaic.Lib.Tactic.Stretches

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The library's own cells use duties of one name; the exchange's cells use the paying device as the duty's name. -/
abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-- The buffers of a device. -/
abbrev xM : Memref sig .tc .vmem S1x1024x1024 .f32 := Memref.whole cc0_stg0_0
abbrev wqM : Memref sig .tc .vmem S1024x1024 .f32 := Memref.whole cc0_stg1_0
abbrev kM : Memref sig .tc .vmem S1x1024x8x128 .f32 := Memref.whole cc0_stg2_0
abbrev vM : Memref sig .tc .vmem S1x1024x8x128 .f32 := Memref.whole cc0_stg3_0
abbrev woM : Memref sig .tc .vmem S1024x1024 .f32 := Memref.whole cc0_stg4_0
abbrev outM : Memref sig .tc .vmem S1x1024x1024 .f32 := Memref.whole cc0_stg5_0
abbrev poM : Memref sig .tc .vmem S1024x8x128 .f32 := Memref.whole cc0_scratch0
abbrev psM : Memref sig .tc .vmem S1024x16 .f32 := Memref.whole cc0_scratch1
abbrev cbM : Memref sig .tc .vmem S8x128x8x128 .f32 := Memref.whole cc0_scratch2
abbrev csM : Memref sig .tc .vmem S8x128x16 .f32 := Memref.whole cc0_scratch3
abbrev resM : Memref sig .tc .vmem S128x1024 .f32 := Memref.whole cc0_scratch4

abbrev 𝒱₀ : Variants := Variants.none

cut_chain st := k0_part44 at 3, 22, 27, 31, 36, 40

end Cert.Run

end
-- ==== Proof.Contents.lean ====
/-
# What every buffer holds

The partial attention of one device, as functions of what it loaded: for every group of row blocks and every head the
scores, their row maximum, the weights' sum and the weighted values; how these lie in the two partial buffers; and the
combination of eight devices' partial results.
-/
module

public import proofs.«01_k».proof.Proof.Common
public import Idealize.ShloMosaic.Lib.Writes
public import Idealize.ShloMosaic.Lib.ValueLayout
public import Idealize.ShloMosaic.Lib.Pipeline.Value

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

/-! ## One group of row blocks: rows `64 g + 256 c + i` -/

theorem slq (g c : Fin 4) : S1024x1024.Slices ![64 * g.val + 256 * c.val, 0] S64x1024 := by revert g c; decide
theorem slk (g c : Fin 4) : S1024x8x128.Slices ![64 * g.val + 256 * c.val, 0, 0] S64x8x128 := by revert g c; decide
theorem slhq (h : Fin 8) : S256x1024.Slices ![0, 128 * h.val] S256x128 := by revert h; decide
theorem slhk (h : Fin 8) : S256x8x128.Slices ![0, h.val, 0] S256x1x128 := by revert h; decide

/-- The group's rows of the queries. -/
def gq (q : FVec F S1024x1024 .f32) (g : Fin 4) : FVec F S256x1024 .f32 :=
  concatenate S256x1024 0
    [⟨S64x1024, extractStridedSlice S64x1024 ![64 * g.val + 256 * (0 : Fin 4).val, 0] q (slq g 0)⟩,
     ⟨S64x1024, extractStridedSlice S64x1024 ![64 * g.val + 256 * (1 : Fin 4).val, 0] q (slq g 1)⟩,
     ⟨S64x1024, extractStridedSlice S64x1024 ![64 * g.val + 256 * (2 : Fin 4).val, 0] q (slq g 2)⟩,
     ⟨S64x1024, extractStridedSlice S64x1024 ![64 * g.val + 256 * (3 : Fin 4).val, 0] q (slq g 3)⟩]
    concatenates_S64x1024_S64x1024_S64x1024_S64x1024_S256x1024_d0

/-- The group's rows of the keys or of the values. -/
def gk (k : FVec F S1024x8x128 .f32) (g : Fin 4) : FVec F S256x8x128 .f32 :=
  concatenate S256x8x128 0
    [⟨S64x8x128, extractStridedSlice S64x8x128 ![64 * g.val + 256 * (0 : Fin 4).val, 0, 0] k (slk g 0)⟩,
     ⟨S64x8x128, extractStridedSlice S64x8x128 ![64 * g.val + 256 * (1 : Fin 4).val, 0, 0] k (slk g 1)⟩,
     ⟨S64x8x128, extractStridedSlice S64x8x128 ![64 * g.val + 256 * (2 : Fin 4).val, 0, 0] k (slk g 2)⟩,
     ⟨S64x8x128, extractStridedSlice S64x8x128 ![64 * g.val + 256 * (3 : Fin 4).val, 0, 0] k (slk g 3)⟩]
    concatenates_S64x8x128_S64x8x128_S64x8x128_S64x8x128_S256x8x128_d0

/-- One head of the group's queries. -/
def hq (q : FVec F S256x1024 .f32) (h : Fin 8) : FVec F S256x128 .f32 :=
  extractStridedSlice S256x128 ![0, 128 * h.val] q (slhq h)
/-- One head of the group's keys or values. -/
def hk (k : FVec F S256x8x128 .f32) (h : Fin 8) : FVec F S256x1x128 .f32 :=
  extractStridedSlice S256x1x128 ![0, h.val, 0] k (slhk h)

/-- One head's weighted values. -/
def oh (qh : FVec F S256x128 .f32) (kh vh : FVec F S256x1x128 .f32) : FVec F S256x1x128 .f32 :=
  shapeCast S256x1x128 (matmul dot_S256x256_S256x128_S256x128_1_0_0_1_n_n none (k0_pay11 qh kh)
    (shapeCast S256x128 vh shapeCasts_S256x1x128_S256x128) (constant S256x128 .f32 0x00000000#32)) shapeCasts_S256x128_S256x1x128

/-- The group's weighted values, all heads. -/
def og (q : FVec F S256x1024 .f32) (k v : FVec F S256x8x128 .f32) : FVec F S256x8x128 .f32 :=
  concatenate S256x8x128 1
    [⟨S256x1x128, oh (hq q 0) (hk k 0) (hk v 0)⟩, ⟨S256x1x128, oh (hq q 1) (hk k 1) (hk v 1)⟩,
     ⟨S256x1x128, oh (hq q 2) (hk k 2) (hk v 2)⟩, ⟨S256x1x128, oh (hq q 3) (hk k 3) (hk v 3)⟩,
     ⟨S256x1x128, oh (hq q 4) (hk k 4) (hk v 4)⟩, ⟨S256x1x128, oh (hq q 5) (hk k 5) (hk v 5)⟩,
     ⟨S256x1x128, oh (hq q 6) (hk k 6) (hk v 6)⟩, ⟨S256x1x128, oh (hq q 7) (hk k 7) (hk v 7)⟩]
    concatenates_S256x1x128_S256x1x128_S256x1x128_S256x1x128_S256x1x128_S256x1x128_S256x1x128_S256x1x128_S256x8x128_d1

/-- The group's row maxima, all heads. -/
def mg (q : FVec F S256x1024 .f32) (k : FVec F S256x8x128 .f32) : FVec F S256x8 .f32 :=
  concatenate S256x8 1
    [⟨S256x1, k0_pay10 (hq q 0) (hk k 0)⟩, ⟨S256x1, k0_pay10 (hq q 1) (hk k 1)⟩,
     ⟨S256x1, k0_pay10 (hq q 2) (hk k 2)⟩, ⟨S256x1, k0_pay10 (hq q 3) (hk k 3)⟩,
     ⟨S256x1, k0_pay10 (hq q 4) (hk k 4)⟩, ⟨S256x1, k0_pay10 (hq q 5) (hk k 5)⟩,
     ⟨S256x1, k0_pay10 (hq q 6) (hk k 6)⟩, ⟨S256x1, k0_pay10 (hq q 7) (hk k 7)⟩]
    concatenates_S256x1_S256x1_S256x1_S256x1_S256x1_S256x1_S256x1_S256x1_S256x8_d1

/-- The group's weight sums, all heads. -/
def lg (q : FVec F S256x1024 .f32) (k : FVec F S256x8x128 .f32) : FVec F S256x8 .f32 :=
  concatenate S256x8 1
    [⟨S256x1, k0_pay12 (hq q 0) (hk k 0)⟩, ⟨S256x1, k0_pay12 (hq q 1) (hk k 1)⟩,
     ⟨S256x1, k0_pay12 (hq q 2) (hk k 2)⟩, ⟨S256x1, k0_pay12 (hq q 3) (hk k 3)⟩,
     ⟨S256x1, k0_pay12 (hq q 4) (hk k 4)⟩, ⟨S256x1, k0_pay12 (hq q 5) (hk k 5)⟩,
     ⟨S256x1, k0_pay12 (hq q 6) (hk k 6)⟩, ⟨S256x1, k0_pay12 (hq q 7) (hk k 7)⟩]
    concatenates_S256x1_S256x1_S256x1_S256x1_S256x1_S256x1_S256x1_S256x1_S256x8_d1

/-! ## The two partial buffers -/

/-- The group of row `r`. -/
def grp (r : Fin 1024) : Fin 4 := ⟨r.val / 64 % 4, Nat.mod_lt _ (by decide)⟩
/-- The place of row `r` within its group. -/
def plc (r : Fin 1024) : Fin 256 := ⟨64 * (r.val / 256) + r.val % 64, by have := r.isLt; omega⟩

theorem grp_row (r : Fin 1024) (g c : Fin 4) (i : ℕ) (hi : i < 64) (h : r.val = 64 * g.val + 256 * c.val + i) : grp r = g := by
  have := g.isLt
  refine Fin.ext ?_
  show r.val / 64 % 4 = g.val
  omega
theorem plc_row (r : Fin 1024) (g c : Fin 4) (i : ℕ) (hi : i < 64) (h : r.val = 64 * g.val + 256 * c.val + i) :
    (plc r).val = 64 * c.val + i := by
  have := g.isLt
  show 64 * (r.val / 256) + r.val % 64 = _
  omega

/-- What the buffer of weighted values holds once every group is stored. -/
def partO (q : FVec F S1024x1024 .f32) (k v : FVec F S1024x8x128 .f32) : FVec F S1024x8x128 .f32 := fun y =>
  og (gq q (grp (y 0))) (gk k (grp (y 0))) (gk v (grp (y 0))) (ix3 (plc (y 0)) (y 1) (y 2))

/-- What the buffer of statistics holds: the row maxima in the first eight columns, the weight sums in the last eight. -/
def partS (q : FVec F S1024x1024 .f32) (k : FVec F S1024x8x128 .f32) : FVec F S1024x16 .f32 := fun y =>
  if h : (y 1).val < 8 then mg (gq q (grp (y 0))) (gk k (grp (y 0))) (ix2 (plc (y 0)) ⟨(y 1).val, h⟩)
  else lg (gq q (grp (y 0))) (gk k (grp (y 0)))
    (ix2 (plc (y 0)) ⟨(y 1).val - 8, by have : (y 1).val < 16 := (y 1).isLt; omega⟩)

/-- A stored block of weighted values is the buffer's contents at the block's place. -/
theorem piece_o (g c : Fin 4) (q : FVec F S1024x1024 .f32) (k v : FVec F S1024x8x128 .f32) (off : Fin 3 → ℕ)
    (inb : ∀ a, off a + S64x8x128.size a ≤ S1024x8x128.size a) (hoff : off = ![64 * g.val + 256 * c.val, 0, 0])
    (sl : S256x8x128.Slices ![64 * c.val, 0, 0] S64x8x128) (x : S64x8x128.Idx) :
    shapeCast S64x8x128 (extractStridedSlice S64x8x128 ![64 * c.val, 0, 0] (og (gq q g) (gk k g) (gk v g)) sl)
      shapeCasts_S64x8x128_S64x8x128 x
      = partO q k v ((Rect.unit (s := S1024x8x128) off S64x8x128.size inb).emb x) := by
  subst hoff
  have hx : (x 0).val < 64 := (x 0).isLt
  have h0 : ((Rect.unit (s := S1024x8x128) _ S64x8x128.size inb).emb x 0).val = 64 * g.val + 256 * c.val + (x 0).val := by
    simp [Rect.emb, Rect.unit]
  have h1 : ((Rect.unit (s := S1024x8x128) _ S64x8x128.size inb).emb x 1).val = (x 1).val := by
    simp [Rect.emb, Rect.unit]
  have h2 : ((Rect.unit (s := S1024x8x128) _ S64x8x128.size inb).emb x 2).val = (x 2).val := by
    simp [Rect.emb, Rect.unit]
  rw [shapeCast_self]
  unfold partO
  rw [grp_row _ g c (x 0).val hx h0]
  refine extractStridedSlice_apply _ _ _ _ _ fun a => ?_
  have hp := plc_row _ g c (x 0).val hx h0
  match a with
  | ⟨0, _⟩ => exact hp
  | ⟨1, _⟩ => exact h1.trans (Nat.zero_add _).symm
  | ⟨2, _⟩ => exact h2.trans (Nat.zero_add _).symm

theorem piece_m (g c : Fin 4) (q : FVec F S1024x1024 .f32) (k : FVec F S1024x8x128 .f32) (off : Fin 2 → ℕ)
    (inb : ∀ a, off a + S64x8.size a ≤ S1024x16.size a) (hoff : off = ![64 * g.val + 256 * c.val, 0])
    (sl : S256x8.Slices ![64 * c.val, 0] S64x8) (x : S64x8.Idx) :
    shapeCast S64x8 (extractStridedSlice S64x8 ![64 * c.val, 0] (mg (gq q g) (gk k g)) sl) shapeCasts_S64x8_S64x8 x
      = partS q k ((Rect.unit (s := S1024x16) off S64x8.size inb).emb x) := by
  subst hoff
  have hx : (x 0).val < 64 := (x 0).isLt
  have hx1 : (x 1).val < 8 := (x 1).isLt
  have h0 : ((Rect.unit (s := S1024x16) _ S64x8.size inb).emb x 0).val = 64 * g.val + 256 * c.val + (x 0).val := by
    simp [Rect.emb, Rect.unit]
  have h1 : ((Rect.unit (s := S1024x16) _ S64x8.size inb).emb x 1).val = (x 1).val := by
    simp [Rect.emb, Rect.unit]
  rw [shapeCast_self]
  unfold partS
  rw [dif_pos (h1 ▸ hx1), grp_row _ g c (x 0).val hx h0]
  refine extractStridedSlice_apply _ _ _ _ _ fun a => ?_
  have hp := plc_row _ g c (x 0).val hx h0
  match a with
  | ⟨0, _⟩ => exact hp
  | ⟨1, _⟩ => exact h1.trans (Nat.zero_add _).symm

theorem piece_l (g c : Fin 4) (q : FVec F S1024x1024 .f32) (k : FVec F S1024x8x128 .f32) (off : Fin 2 → ℕ)
    (inb : ∀ a, off a + S64x8.size a ≤ S1024x16.size a) (hoff : off = ![64 * g.val + 256 * c.val, 8])
    (sl : S256x8.Slices ![64 * c.val, 0] S64x8) (x : S64x8.Idx) :
    shapeCast S64x8 (extractStridedSlice S64x8 ![64 * c.val, 0] (lg (gq q g) (gk k g)) sl) shapeCasts_S64x8_S64x8 x
      = partS q k ((Rect.unit (s := S1024x16) off S64x8.size inb).emb x) := by
  subst hoff
  have hx : (x 0).val < 64 := (x 0).isLt
  have hx1 : (x 1).val < 8 := (x 1).isLt
  have h0 : ((Rect.unit (s := S1024x16) _ S64x8.size inb).emb x 0).val = 64 * g.val + 256 * c.val + (x 0).val := by
    simp [Rect.emb, Rect.unit]
  have h1 : ((Rect.unit (s := S1024x16) _ S64x8.size inb).emb x 1).val = 8 + (x 1).val := by
    simp [Rect.emb, Rect.unit]
  rw [shapeCast_self]
  unfold partS
  rw [dif_neg (by rw [h1]; omega), grp_row _ g c (x 0).val hx h0]
  refine extractStridedSlice_apply _ _ _ _ _ fun a => ?_
  have hp := plc_row _ g c (x 0).val hx h0
  match a with
  | ⟨0, _⟩ => exact hp
  | ⟨1, _⟩ => show ((Rect.unit (s := S1024x16) _ S64x8.size inb).emb x 1).val - 8 = 0 + (x 1).val
              rw [h1]; omega

/-! ## The combination of eight partial results -/

/-- The largest of the eight maxima. -/
def cMax (M : Fin 8 → FVec F S128x8 .f32) : FVec F S128x8 .f32 :=
  maximumf (maximumf (maximumf (maximumf (maximumf (maximumf (maximumf (M 0) (M 1)) (M 2)) (M 3)) (M 4)) (M 5)) (M 6)) (M 7)

/-- The factor that brings one partial result to the common maximum. -/
def cScale (M : Fin 8 → FVec F S128x8 .f32) (j : Fin 8) : FVec F S128x8 .f32 := exp (subf (M j) (cMax M))

/-- Eight terms added one after another onto zero. -/
def cSum {s : Shape} (t : Fin 8 → FVec F s .f32) : FVec F s .f32 :=
  addf (addf (addf (addf (addf (addf (addf (addf (broadcast s (Scalar.ofBits .f32 0x00000000#32)) (t 0)) (t 1)) (t 2)) (t 3)) (t 4)) (t 5))
    (t 6)) (t 7)

/-- A statistic spread over the head's columns. -/
def spread (v : FVec F S128x8 .f32) : FVec F S128x8x128 .f32 :=
  broadcastTo S128x8x128 (shapeCast S128x8x1 v shapeCasts_S128x8_S128x8x1) broadcasts_S128x8x1_S128x8x128

/-- A device's rows of the result, from the eight maxima, weight sums and weighted values sent to it. -/
def comb (M L : Fin 8 → FVec F S128x8 .f32) (O : Fin 8 → FVec F S128x8x128 .f32) (wo : FVec F S1024x1024 .f32) :
    FVec F S128x1024 .f32 :=
  matmul dot_S128x1024_S1024x1024_S128x1024_1_0_0_1_n_n none
    (shapeCast S128x1024
      (divf (cSum fun j => mulf (spread (cScale M j)) (O j)) (spread (cSum fun j => mulf (cScale M j) (L j))))
      shapeCasts_S128x8x128_S128x1024)
    (shapeCast S1024x1024 wo shapeCasts_S1024x1024_S1024x1024) (constant S128x1024 .f32 0x00000000#32)

/-- The first eight columns of a block of statistics. -/
def sM (X : S128x16.Idx → F .f32) : FVec F S128x8 .f32 := fun y => X (ix2 (y 0) ⟨(y 1).val, Nat.lt_of_lt_of_le (y 1).isLt (by decide)⟩)
/-- The last eight columns of a block of statistics. -/
def sL (X : S128x16.Idx → F .f32) : FVec F S128x8 .f32 := fun y =>
  X (ix2 (y 0) ⟨8 + (y 1).val, by have h : (y 1).val < 8 := (y 1).isLt; omega⟩)

/-- Rows `128 d …` of the weighted values. -/
def rowsO (X : FVec F S1024x8x128 .f32) (d : Dev nD) : FVec F S128x8x128 .f32 := fun y =>
  X (ix3 ⟨128 * d.val + (y 0).val, by have h : (y 0).val < 128 := (y 0).isLt; have : d.val < 8 := d.isLt; omega⟩ (y 1) (y 2))
/-- Rows `128 d …` of the statistics. -/
def rowsS (X : FVec F S1024x16 .f32) (d : Dev nD) : FVec F S128x16 .f32 := fun y =>
  X (ix2 ⟨128 * d.val + (y 0).val, by have h : (y 0).val < 128 := (y 0).isLt; have : d.val < 8 := d.isLt; omega⟩ (y 1))

end Cert.Run

end
-- ==== Proof.Schedule.lean ====
/-
# The exchange's schedule

Every device signals the seven others that its receive slots are free, sends each device its rows of the partial results,
combines what it received and sends the combined rows to everyone. A device has one barrier cell and forty-eight transfer
cells: six kinds of eight. Each cell has a single round.
-/
module

public import proofs.«01_k».proof.Proof.Contents
public import Idealize.ShloMosaic.Lib.Memref

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

open Idealize.ShloMosaic.ShareLeaves (leaf)

/-! ## The ring of devices -/

/-- The device `r` places on. -/
def rot (c : Dev nD) (r : Fin 8) : Dev nD := ⟨(c.val + r.val) % 8, Nat.mod_lt _ (by decide)⟩
/-- How many places `p` is on from `c`. -/
def gap (c p : Dev nD) : Fin 8 := ⟨(p.val + 8 - c.val) % 8, Nat.mod_lt _ (by decide)⟩

theorem rot_gap (c p : Dev nD) : rot c (gap c p) = p := by revert c p; decide
theorem gap_rot (c : Dev nD) (r : Fin 8) : gap c (rot c r) = r := by revert c r; decide

/-- Counting the devices from `c` on. -/
def rotE (c : Dev nD) : Fin 8 ≃ Dev nD := ⟨rot c, gap c, gap_rot c, rot_gap c⟩

/-! ## The cells -/

/-- The barrier semaphore of the launch. -/
abbrev barS : Sem sig := (SemArray.scalar (sig.barrier 0 rfl) : Sems sig S_).sem

/-- The transfer semaphore of kind `j` and slot `s`. Kinds: 0 and 1 the weighted values' send and receive, 2 and 3 the
    statistics', 4 and 5 the result rows'. -/
def dq (j : Fin 6) (s : Fin 8) : DmaSem sig := ⟨6 + 8 * j.val + s.val, by have := j.isLt; have := s.isLt; show _ < 54; omega⟩
def qj (q : DmaSem sig) : Fin 6 := ⟨(q.val - 6) / 8, by have : q.val < 54 := q.isLt; omega⟩
def qs (q : DmaSem sig) : Fin 8 := ⟨(q.val - 6) % 8, Nat.mod_lt _ (by decide)⟩

theorem qj_dq (j : Fin 6) (s : Fin 8) : qj (dq j s) = j := by revert j s; decide
theorem qs_dq (j : Fin 6) (s : Fin 8) : qs (dq j s) = s := by revert j s; decide
theorem dq_ge (j : Fin 6) (s : Fin 8) : 6 ≤ (dq j s).val := by revert j s; decide

abbrev bcell (c : Dev nD) : GSem nD τ sig := ((c : Thread nD τ), .reg barS)
abbrev dcell (c : Dev nD) (j : Fin 6) (s : Fin 8) : GSem nD τ sig := ((c : Thread nD τ), .dma (dq j s))

/-- A device's cells: the barrier cell and the transfer cells. -/
abbrev CK : Type := Option (Fin 6 × Fin 8)
def csem : CK → SemLoc sig | none => .reg barS | some x => .dma (dq x.1 x.2)
abbrev kcell (ck : Dev nD × CK) : GSem nD τ sig := ((ck.1 : Thread nD τ), csem ck.2)

/-! ## The slots -/

theorem inb_po (d : Dev nD) : ∀ a, (![128 * d.val, 0, 0] : Fin 3 → ℕ) a + S128x8x128.size a ≤ S1024x8x128.size a := by revert d; decide
theorem inb_ps (d : Dev nD) : ∀ a, (![128 * d.val, 0] : Fin 2 → ℕ) a + S128x16.size a ≤ S1024x16.size a := by revert d; decide
theorem inb_cb (d : Dev nD) : ∀ a, (![d.val, 0, 0, 0] : Fin 4 → ℕ) a + S1x128x8x128.size a ≤ S8x128x8x128.size a := by revert d; decide
theorem inb_cs (d : Dev nD) : ∀ a, (![d.val, 0, 0] : Fin 3 → ℕ) a + S1x128x16.size a ≤ S8x128x16.size a := by revert d; decide
theorem inb_out (d : Dev nD) : ∀ a, (![0, 128 * d.val, 0] : Fin 3 → ℕ) a + S1x128x1024.size a ≤ S1x1024x1024.size a := by revert d; decide

/-- Rows `128 d …` of the partial buffers, -/
abbrev poV (d : Dev nD) : Memref sig .tc .vmem S128x8x128 .f32 :=
  poM.slice (Rect.unit (s := S1024x8x128) ![128 * d.val, 0, 0] S128x8x128.size (inb_po d)) (fun _ => rfl)
abbrev psV (d : Dev nD) : Memref sig .tc .vmem S128x16 .f32 :=
  psM.slice (Rect.unit (s := S1024x16) ![128 * d.val, 0] S128x16.size (inb_ps d)) (fun _ => rfl)
/-- slot `d` of the receive buffers, as cut and with its unit axis dropped, -/
abbrev cbS (d : Dev nD) : Memref sig .tc .vmem S1x128x8x128 .f32 :=
  cbM.slice (Rect.unit (s := S8x128x8x128) ![d.val, 0, 0, 0] S1x128x8x128.size (inb_cb d)) (fun _ => rfl)
abbrev csS (d : Dev nD) : Memref sig .tc .vmem S1x128x16 .f32 :=
  csM.slice (Rect.unit (s := S8x128x16) ![d.val, 0, 0] S1x128x16.size (inb_cs d)) (fun _ => rfl)
abbrev outS (d : Dev nD) : Memref sig .tc .vmem S1x128x1024 .f32 :=
  outM.slice (Rect.unit (s := S1x1024x1024) ![0, 128 * d.val, 0] S1x128x1024.size (inb_out d)) (fun _ => rfl)
abbrev cbV (d : Dev nD) : Memref sig .tc .vmem S128x8x128 .f32 := (cbS d).squeeze S128x8x128 squeezes_S1x128x8x128_S128x8x128
abbrev csV (d : Dev nD) : Memref sig .tc .vmem S128x16 .f32 := (csS d).squeeze S128x16 squeezes_S1x128x16_S128x16
/-- and rows `128 d …` of the result. -/
abbrev outV (d : Dev nD) : Memref sig .tc .vmem S128x1024 .f32 := (outS d).squeeze S128x1024 squeezes_S1x128x1024_S128x1024

/-- Device `d` owns a memref's elements. -/
abbrev own (d : Dev nD) {sp : Space} {sh : Shape} {e : EltTy} (v : Memref sig .tc sp sh e) (q : PosShare TreeShare)
    (X : sh.Idx → Elt F e) : sProp 𝕄 := owns (Ix := Unit) (Name := ℕ) (U := UU) (Lvl := ℕ) (d : Thread nD τ) v q X

/-- The transfers' credits. -/
abbrev NO : ℕ := (cbV (0 : Fin 8)).view.dmaCredit
abbrev NS : ℕ := (csV (0 : Fin 8)).view.dmaCredit
abbrev NR : ℕ := (outV (0 : Fin 8)).view.dmaCredit
def amt (j : Fin 6) : ℕ := match j with
  | 0 | 1 => NO
  | 2 | 3 => NS
  | 4 | 5 => NR
theorem amt_pos (j : Fin 6) : 0 < amt j := by
  unfold amt; split <;> exact View.dmaCredit_pos _ (by decide)

/-! ## What travels -/

/-- What every device has computed: its partial results and its rows of the result. -/
structure Cont (F : FTy → Type) [FloatOps F] where
  po : Dev nD → FVec F S1024x8x128 .f32
  ps : Dev nD → FVec F S1024x16 .f32
  rs : Dev nD → FVec F S128x1024 .f32

variable (C : Cont F)

/-- The slots on device `p` that device `c` writes. -/
def slots (p c : Dev nD) : sProp 𝕄 :=
  iprop((∃ X, own (F := F) p (cbV c) fullShare X) ∗ (∃ X, own (F := F) p (csV c) fullShare X) ∗ ∃ X, own (F := F) p (outV c) fullShare X)

/-- What a transfer cell's one landing brings: to a send cell the source back, to a receive cell the rows sent. -/
def dpay (c : Dev nD) (j : Fin 6) (s : Fin 8) : sProp 𝕄 := match j with
  | 0 => own c (poV (rot c s)) fullShare (rowsO (C.po c) (rot c s))
  | 1 => own c (cbV s) fullShare (rowsO (C.po s) c)
  | 2 => own c (psV (rot c s)) fullShare (rowsS (C.ps c) (rot c s))
  | 3 => own c (csV s) fullShare (rowsS (C.ps s) c)
  | 4 => own c resM (leaf 3 fullShare s) (C.rs c)
  | 5 => own c (outV s) fullShare (C.rs s)

instance slots_storable (p c : Dev nD) : BI.Storable (upEmb : UEmb _ 𝕄) (slots (F := F) p c) := by
  unfold slots; infer_instance
instance dpay_storable (c : Dev nD) (j : Fin 6) (s : Fin 8) : BI.Storable (upEmb : UEmb _ 𝕄) (dpay C c j s) := by
  unfold dpay; split <;> infer_instance

/-- The schedule: a barrier cell has one unit from every other device, which hands over the slots it frees; a transfer
    cell one landing. -/
def Rd : Rounds.Schedule (GSem nD τ sig) (Dev nD) 𝕄 where
  duties g r := if r = 0 ∧ g.1.2 = .tc then (match g.2 with
    | .reg b => if b = barS then Finset.univ.erase g.1.1 else ∅
    | .dma q => if 6 ≤ q.val then {0} else ∅) else ∅
  unitless _ := False
  amount g _ _ := match g.2 with
    | .reg _ => 1
    | .dma q => amt (qj q)
  payload g _ d := match g.2 with
    | .reg _ => slots d g.1.1
    | .dma q => dpay C g.1.1 (qj q) (qs q)
  amount_pos g _ _ _ := by
    cases g.2 with
    | reg b => exact Nat.one_pos
    | dma q => exact amt_pos _

instance Rd_payload_storable (g : GSem nD τ sig) (r : ℕ) (d : Dev nD) :
    BI.Storable (upEmb : UEmb _ 𝕄) ((Rd C).payload g r d) := by
  show BI.Storable upEmb (match g.2 with
    | .reg _ => slots d g.1.1
    | .dma q => dpay C g.1.1 (qj q) (qs q))
  split <;> infer_instance

theorem duties_bar (c : Dev nD) : (Rd C).duties (bcell c) 0 = Finset.univ.erase c := by
  dsimp only [Rd]; rw [if_pos ⟨rfl, rfl⟩]; exact if_pos rfl
theorem duties_dma (c : Dev nD) (j : Fin 6) (s : Fin 8) : (Rd C).duties (dcell c j s) 0 = {0} := by
  dsimp only [Rd]; rw [if_pos ⟨rfl, rfl⟩]; exact if_pos (dq_ge j s)
theorem duties_later (g : GSem nD τ sig) : ∀ r, 1 ≤ r → (Rd C).duties g r = ∅ := fun r hr => by
  dsimp only [Rd]; rw [if_neg fun h => by omega]
theorem amount_bar (c d : Dev nD) : (Rd C).amount (bcell c) 0 d = 1 := rfl
theorem amount_dma (c : Dev nD) (j : Fin 6) (s : Fin 8) (d : Dev nD) : (Rd C).amount (dcell c j s) 0 d = amt j := by
  show amt (qj (dq j s)) = amt j; rw [qj_dq]
theorem expect_bar (c : Dev nD) : (Rd C).expect (bcell c) 0 = 7 := by
  unfold Schedule.expect Schedule.amountOf
  rw [duties_bar, Finset.sum_congr rfl fun d _ => amount_bar C c d, Finset.sum_const, Finset.card_erase_of_mem (Finset.mem_univ _),
    Finset.card_univ, Fintype.card_fin]; rfl
theorem expect_dma (c : Dev nD) (j : Fin 6) (s : Fin 8) : (Rd C).expect (dcell c j s) 0 = amt j := by
  unfold Schedule.expect Schedule.amountOf; rw [duties_dma, Finset.sum_singleton, amount_dma]
theorem payload_bar (c d : Dev nD) : (Rd C).payload (bcell c) 0 d = slots d c := rfl
theorem payload_dma (c : Dev nD) (j : Fin 6) (s : Fin 8) (d : Dev nD) : (Rd C).payload (dcell c j s) 0 d = dpay C c j s := by
  show dpay C c (qj (dq j s)) (qs (dq j s)) = dpay C c j s; rw [qj_dq, qs_dq]
theorem rest_bar (c : Dev nD) : bigSep ((Rd C).duties (bcell c) 0 \ ∅) (fun d => (Rd C).payload (bcell c) 0 d)
    = bigSep (Finset.univ.erase c) fun d => slots d c := by
  rw [Finset.sdiff_empty, duties_bar]; rfl
theorem rest_dma (c : Dev nD) (j : Fin 6) (s : Fin 8) :
    bigSep ((Rd C).duties (dcell c j s) 0 \ ∅) (fun d => (Rd C).payload (dcell c j s) 0 d) = dpay C c j s := by
  rw [Finset.sdiff_empty, duties_dma, bigSep_singleton, payload_dma]

/-! ## What is owed, in the order of paying -/

def owing : List (GSem nD τ sig × ℕ) → CellTallies nD τ sig Unit
  | [] => 0
  | x :: l => owing l + tallyAt x.1 () x.2

/-- The result rows still to be sent, -/
def obA (c : Dev nD) : List (Fin 8) → List (GSem nD τ sig × ℕ)
  | [] => []
  | r :: l => (dcell (rot c r) 5 c, NR) :: obA c l
/-- the partial results still to be sent, and after them the result rows, -/
def obS (c : Dev nD) : List (Fin 8) → List (GSem nD τ sig × ℕ)
  | [] => obA c [0, 1, 2, 3, 4, 5, 6, 7]
  | r :: l => (dcell (rot c r) 1 c, NO) :: (dcell (rot c r) 3 c, NS) :: obS c l
/-- the signals still to be given, and after them everything else. -/
def obB (c : Dev nD) : List (Fin 8) → List (GSem nD τ sig × ℕ)
  | [] => obS c [0, 1, 2, 3, 4, 5, 6, 7]
  | r :: l => (bcell (rot c r), 1) :: obB c l

/-- A device's outstanding payments are those of the list. -/
def Ow (c : Dev nD) (l : List (GSem nD τ sig × ℕ)) : sProp 𝕄 := iprop(∃ W, owes (c : Thread nD τ) (owing l) W)

theorem owing_pos {l : List (GSem nD τ sig × ℕ)} {g : GSem nD τ sig} {u : Unit} (h : 0 < owing l g u) : ∃ x ∈ l, g = x.1 := by
  induction l with
  | nil => exact absurd h (Nat.lt_irrefl 0)
  | cons x l ih =>
    unfold owing at h
    rw [Pi.add_apply, Finsupp.add_apply, tallyAt_apply] at h
    by_cases hx : g = x.1
    · exact ⟨x, List.mem_cons_self, hx⟩
    · rw [if_neg (fun h' => hx h'.1), Nat.add_zero] at h
      obtain ⟨y, hy, e⟩ := ih h
      exact ⟨y, List.mem_cons_of_mem _ hy, e⟩

/-! ## Levels -/

def L (g : GSem nD τ sig) : Finset Unit := if g.1.2 = .tc then {()} else ∅
/-- Staging and send cells lowest, then the barrier, then the receive cells of the partial results, then those of the rows. -/
def lvS : SemLoc sig → ℕ
  | .reg _ => 1
  | .dma q => if q.val < 6 then 0 else match qj q with
    | 0 | 2 | 4 => 0
    | 1 | 3 => 2
    | 5 => 3
def lv (g : GSem nD τ sig) (_ : Unit) : ℕ := lvS g.2
def lvj (j : Fin 6) : ℕ := match j with
  | 0 | 2 | 4 => 0
  | 1 | 3 => 2
  | 5 => 3
theorem lvS_dq (j : Fin 6) (s : Fin 8) : lvS (.dma (dq j s)) = lvj j := by revert j s; decide

theorem L_of_ne (g : GSem nD τ sig) (h : g.1.2 ≠ .tc) : L g = ∅ := if_neg h
theorem L_tc (c : Dev nD) (sm : SemLoc sig) : L ((c : Thread nD τ), sm) = {()} := if_pos rfl

/-- Every cell of the list lies on a TensorCore and above level `n`. -/
def Above (n : ℕ) (l : List (GSem nD τ sig × ℕ)) : Prop := ∀ x ∈ l, x.1.1.2 = .tc ∧ n < lvS x.1.2

theorem above_nil (n : ℕ) : Above n [] := fun _ h => absurd h List.not_mem_nil
theorem above_obA (c : Dev nD) (l : List (Fin 8)) : Above 2 (obA c l) := by
  induction l with
  | nil => exact above_nil 2
  | cons r l ih =>
    intro x hx
    rcases List.mem_cons.mp hx with rfl | hx
    · exact ⟨rfl, by show 2 < lvS (.dma (dq 5 c)); rw [lvS_dq]; decide⟩
    · exact ih x hx
theorem above_mono {n n' : ℕ} (h : n' ≤ n) {l : List (GSem nD τ sig × ℕ)} (H : Above n l) : Above n' l :=
  fun x hx => ⟨(H x hx).1, Nat.lt_of_le_of_lt h (H x hx).2⟩
theorem above_obS (c : Dev nD) (l : List (Fin 8)) : Above 1 (obS c l) := by
  induction l with
  | nil => exact above_mono (by decide) (above_obA c _)
  | cons r l ih =>
    intro x hx
    rcases List.mem_cons.mp hx with rfl | hx
    · exact ⟨rfl, by show 1 < lvS (.dma (dq 1 c)); rw [lvS_dq]; decide⟩
    rcases List.mem_cons.mp hx with rfl | hx
    · exact ⟨rfl, by show 1 < lvS (.dma (dq 3 c)); rw [lvS_dq]; decide⟩
    · exact ih x hx
theorem above_obB (c : Dev nD) (l : List (Fin 8)) : Above 0 (obB c l) := by
  induction l with
  | nil => exact above_mono (by decide) (above_obS c _)
  | cons r l ih =>
    intro x hx
    rcases List.mem_cons.mp hx with rfl | hx
    · exact ⟨rfl, by show 0 < 1; decide⟩
    · exact ih x hx

/-- A device may wait on a cell while it owes only cells above it. -/
theorem mayWait_of_above (c : Dev nD) (sm : SemLoc sig) (l : List (GSem nD τ sig × ℕ)) (h : Above (lvS sm) l) :
    (levAts L lv : sProp 𝕄) ⊢ MayWait (c : Thread nD τ) sm () (owing l) :=
  MayOwe.of_cut (L := L) (lev := lv) (lvS sm) (fun p hp => by rw [Finset.mem_singleton.mp hp, L_tc]; exact Finset.mem_singleton_self _)
    (fun g u hg => by
      obtain ⟨x, hx, rfl⟩ := owing_pos hg
      unfold L; rw [if_pos (h x hx).1]; exact Finset.mem_singleton_self _)
    (fun p hp => by rw [Finset.mem_singleton.mp hp]; exact Nat.le_refl _)
    (fun g u hg => by
      obtain ⟨x, hx, rfl⟩ := owing_pos hg
      exact (h x hx).2)

/-! ## What every device may look up: the cells' invariants and that each cell's round is open -/

def records (K : Dev nD × CK → ℕ) : sProp 𝕄 :=
  iprop((bigSep Finset.univ fun ck : Dev nD × CK => cellInv ER (Rd C) (K ck) (kcell ck))
    ∗ bigSep Finset.univ fun ck : Dev nD × CK => reached ER (kcell ck) 0)

instance records_persistent (K : Dev nD × CK → ℕ) : BI.Persistent (records C K) := by unfold records; infer_instance

theorem inv_at (K : Dev nD × CK → ℕ) (ck : Dev nD × CK) :
    (bigSep Finset.univ fun ck : Dev nD × CK => (cellInv ER (Rd C) (K ck) (kcell ck) : sProp 𝕄)) ⊢ cellInv ER (Rd C) (K ck) (kcell ck) :=
  bigSep_elim (Finset.mem_univ ck)
theorem reached_at (ck : Dev nD × CK) :
    (bigSep Finset.univ fun ck : Dev nD × CK => (reached ER (kcell ck) 0 : sProp 𝕄)) ⊢ reached ER (kcell ck) 0 :=
  bigSep_elim (Finset.mem_univ ck)

theorem rec_inv (K : Dev nD × CK → ℕ) (ck : Dev nD × CK) : records C K ⊢ cellInv ER (Rd C) (K ck) (kcell ck) := by
  unfold records; iintro ⟨H, -⟩; iapply (inv_at C K ck); iexact H
theorem rec_reached (K : Dev nD × CK → ℕ) (ck : Dev nD × CK) : records C K ⊢ reached ER (kcell ck) 0 := by
  unfold records; iintro ⟨-, H⟩; iapply (reached_at (F := F) ck); iexact H

end Cert.Run

end
-- ==== Proof.Steps.lean ====
/-
# One step of each kind

The signal, the transfer and the two waits of the exchange, stated once for every device, kind and slot.
-/
module

public import proofs.«01_k».proof.Proof.Schedule

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

open Idealize.ShloMosaic.ShareLeaves (leaf)

/-! ## The semaphores the program names -/

/-- The one element left of an array of semaphores cut down to one. -/
theorem sem_cut {α : Type} (a : SemArray α S8) {off : Fin 1 → ℕ} {inb : ∀ a, off a + S1.size a ≤ S8.size a} :
    ((a.slice (Rect.unit (s := S8) off S1.size inb)).squeeze S_ squeezes_S1_S_).sem
      = (a.slice (Rect.unit (s := S8) off S1.size inb)).ix (fun a => ⟨0, by fin_cases a; exact Nat.one_pos⟩) := by
  refine congrArg (a.slice (Rect.unit (s := S8) off S1.size inb)).ix (funext fun i => ?_)
  fin_cases i
  exact Subsingleton.elim (α := Fin 1) _ _

theorem sem5 (r : Fin 8) {off : Fin 1 → ℕ} (hoff : off = ![r.val]) {inb : ∀ a, off a + S1.size a ≤ S8.size a} :
    ((cc0_scratch5.slice (Rect.unit (s := S8) off S1.size inb)).squeeze S_ squeezes_S1_S_).sem = dq 0 r := by
  rw [sem_cut]; subst hoff; revert inb; revert r; decide
theorem sem6 (r : Fin 8) {off : Fin 1 → ℕ} (hoff : off = ![r.val]) {inb : ∀ a, off a + S1.size a ≤ S8.size a} :
    ((cc0_scratch6.slice (Rect.unit (s := S8) off S1.size inb)).squeeze S_ squeezes_S1_S_).sem = dq 1 r := by
  rw [sem_cut]; subst hoff; revert inb; revert r; decide
theorem sem7 (r : Fin 8) {off : Fin 1 → ℕ} (hoff : off = ![r.val]) {inb : ∀ a, off a + S1.size a ≤ S8.size a} :
    ((cc0_scratch7.slice (Rect.unit (s := S8) off S1.size inb)).squeeze S_ squeezes_S1_S_).sem = dq 2 r := by
  rw [sem_cut]; subst hoff; revert inb; revert r; decide
theorem sem8 (r : Fin 8) {off : Fin 1 → ℕ} (hoff : off = ![r.val]) {inb : ∀ a, off a + S1.size a ≤ S8.size a} :
    ((cc0_scratch8.slice (Rect.unit (s := S8) off S1.size inb)).squeeze S_ squeezes_S1_S_).sem = dq 3 r := by
  rw [sem_cut]; subst hoff; revert inb; revert r; decide
theorem sem9 (r : Fin 8) {off : Fin 1 → ℕ} (hoff : off = ![r.val]) {inb : ∀ a, off a + S1.size a ≤ S8.size a} :
    ((cc0_scratch9.slice (Rect.unit (s := S8) off S1.size inb)).squeeze S_ squeezes_S1_S_).sem = dq 4 r := by
  rw [sem_cut]; subst hoff; revert inb; revert r; decide
theorem sem10 (r : Fin 8) {off : Fin 1 → ℕ} (hoff : off = ![r.val]) {inb : ∀ a, off a + S1.size a ≤ S8.size a} :
    ((cc0_scratch10.slice (Rect.unit (s := S8) off S1.size inb)).squeeze S_ squeezes_S1_S_).sem = dq 5 r := by
  rw [sem_cut]; subst hoff; revert inb; revert r; decide

variable (C : Cont F) (K : Dev nD × CK → ℕ)

/-! ## The signal -/

theorem rot0 (c : Dev nD) : c.val = (rot c 0).val := by revert c; decide
theorem rot_ne (c : Dev nD) (r : Fin 8) (h : r ≠ 0) : c ≠ rot c r := by revert c r; decide

theorem wp_sig (c n : Dev nD) (r : Fin 8) (hr : r ≠ 0) (hn : n = rot c r) (l : List (GSem nD τ sig × ℕ)) {k' : ℤ} (hk : k' = ((1 : ℕ) : ℤ))
    {α : Type} {Q : α → sProp 𝕄} {k : PUnit → Prog (TpuEff nD τ sig (Elt F) Λ₀ .tc) α} :
    iprop(records C K ∗ Ow c ((bcell (rot c r), 1) :: l) ∗ dutyTok ER (bcell (rot c r)) 0 c ∗ slots c (rot c r))
      ⊢ iprop((Ow c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  unfold Ow
  iintro ⟨#HR, ⟨%W, HO⟩, Ht, Hs⟩ Hk
  iapply (Rounds.wp_signal 𝒱₀ ER (Rd C) (c : Thread nD τ) none (dst := (rot c r : Thread nD τ)) (κ := K (rot c r, none))
      (d := c) (by rw [duties_bar]; exact Finset.mem_erase.mpr ⟨rot_ne c r hr, Finset.mem_univ _⟩) (amount_bar C (rot c r) c) () (owing l) rfl)
    $$ [HO Ht Hs]
  · isplitr; · iapply (rec_inv C K (rot c r, none)); iexact HR
    isplitl [HO]; · iexact HO
    isplitl [Ht]; · iexact Ht
    isplitl [Hs]; · rw [payload_bar]; iexact Hs
    iapply (rec_reached C K (rot c r, none)); iexact HR
  iintro HO
  iapply Hk
  iexists W; iexact HO

/-! ## The barrier's wait -/

theorem wp_bar (c : Dev nD) {k' : ℤ} (hk : k' = ((7 : ℕ) : ℤ))
    {α : Type} {Q : α → sProp 𝕄} {k : PUnit → Prog (TpuEff nD τ sig (Elt F) Λ₀ .tc) α} :
    iprop(records C K ∗ levAts L lv ∗ Ow c (obB c []) ∗ cred (tallyAt (bcell c) () 7) ∗ atPos ER (bcell c) 0 ∅ 0)
      ⊢ iprop(((Ow c (obB c []) ∗ atPos ER (bcell c) 1 ∅ 0 ∗ bigSep (Finset.univ.erase c) fun d => slots d c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold Ow
  iintro ⟨#HR, #Hlev, ⟨%W, HO⟩, Hc, Ha⟩ Hk
  iapply (Rounds.wp_wait_rest_token 𝒱₀ ER (Rd C) (c : Thread nD τ) none (κ := K (c, none))
      (wpE_semWait_eq 𝒱₀ (c : Thread nD τ) none Set.univ) (Set.mem_univ _) () (O := owing (obB c [])) (W := W) (R := 0) (m := 0) (T := ∅)
      (by rw [expect_bar])) $$ [Hc HO Ha]
  · isplitr; · iapply (rec_inv C K (c, none)); iexact HR
    isplitl [Hc]; · iexact Hc
    isplitl [HO]; · iexact HO
    isplitr; · iapply (mayWait_of_above c (.reg barS) (obB c []) (above_obS c _)); iexact Hlev
    iexact Ha
  iintro ⟨HO, Ha, -, Hp⟩
  ihave Hp' := (Entails.of_eq (rest_bar C c)) $$ Hp
  iapply Hk
  isplitl [HO]; · iexists _; iexact HO
  isplitl [Ha]; · iexact Ha
  iexact Hp'

/-! ## A transfer cell's wait -/

/-- What a wait on a transfer cell needs: the cell's credit and the device's position. -/
def WT (c : Dev nD) (j : Fin 6) (s : Fin 8) : sProp 𝕄 :=
  iprop(cred (tallyAt (dcell c j s) () (amt j)) ∗ atPos ER (dcell c j s) 0 ∅ 0)
/-- The cell after its one round. -/
def DN (c : Dev nD) (j : Fin 6) (s : Fin 8) : sProp 𝕄 := (atPos ER (dcell c j s) 1 ∅ 0 : sProp 𝕄)

theorem wp_dma (c : Dev nD) (j : Fin 6) (s : Fin 8) {sm : DmaSem sig} (hs : sm = dq j s) {sh : Shape}
    {src dst : Memref sig .tc .vmem sh .f32} {h₁ : src.view.WordExact} {h₂ : dst.view.WordExact} (hN : dst.view.dmaCredit = amt j)
    (l : List (GSem nD τ sig × ℕ)) (hl : Above (lvj j) l)
    {α : Type} {Q : α → sProp 𝕄} {k : PUnit → Prog (TpuEff nD τ sig (Elt F) Λ₀ .tc) α} :
    iprop(records C K ∗ levAts L lv ∗ Ow c l ∗ WT c j s)
      ⊢ iprop(((Ow c l ∗ DN c j s ∗ dpay C c j s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  unfold Ow WT DN
  iintro ⟨#HR, #Hlev, ⟨%W, HO⟩, Hc, Ha⟩ Hk
  rw [← hN]
  iapply (Rounds.wp_wait_rest_token 𝒱₀ ER (Rd C) (c : Thread nD τ) none (κ := K (c, some (j, s)))
      (wpE_waitDma2_eq 𝒱₀ (c : Thread nD τ) none Set.univ) (Set.mem_univ _) () (O := owing l) (W := W) (R := 0) (m := 0) (T := ∅)
      (by rw [Nat.zero_add, expect_dma]; exact hN)) $$ [Hc HO Ha]
  · isplitr; · iapply (rec_inv C K (c, some (j, s))); iexact HR
    isplitl [Hc]; · iexact Hc
    isplitl [HO]; · iexact HO
    isplitr; · iapply (mayWait_of_above c (.dma (dq j s)) l (by rw [lvS_dq]; exact hl)); iexact Hlev
    iexact Ha
  iintro ⟨HO, Ha, -, Hp⟩
  ihave Hp' := (Entails.of_eq (rest_dma C c j s)) $$ Hp
  iapply Hk
  isplitl [HO]; · iexists _; iexact HO
  isplitl [Ha]; · iexact Ha
  iexact Hp'

/-! ## The transfers -/

theorem wp_send_gen (c n d : Dev nD) (hn : n = d) (j j' : Fin 6) (r s : Fin 8) {sS sR : DmaSem sig} (hS : sS = dq j r) (hR : sR = dq j' s)
    {sh : Shape} {src dst : Memref sig .tc .vmem sh .f32} {hsc : dst.view.ref.isScScratch = false}
    {h₁ : src.view.WordExact} {h₂ : dst.view.WordExact}
    {h₃ : DmaTarget.Typed .vmem (.dma sR) (.remote (Dev.tc n : Thread nD τ) dst (.dma sS) hsc)}
    (hN : dst.view.dmaCredit = amt j) (hjj : amt j = amt j') (q : PosShare TreeShare) (X : sh.Idx → Elt F .f32)
    (hp₁ : own c src q X ⊢ dpay C c j r) (hp₂ : own d dst fullShare X ⊢ dpay C d j' s)
    (l : List (GSem nD τ sig × ℕ))
    {α : Type} {Q : α → sProp 𝕄} {k : PUnit → Prog (TpuEff nD τ sig (Elt F) Λ₀ .tc) α} :
    iprop(records C K ∗ Ow c ((dcell d j' s, amt j) :: l) ∗ own c src q X ∗ (∃ Y, own (F := F) d dst fullShare Y)
        ∗ dutyTok ER (dcell c j r) 0 0 ∗ dutyTok ER (dcell d j' s) 0 0)
      ⊢ iprop(((cred (tallyAt (dcell c j r) () (amt j)) ∗ Ow c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) h₁ h₂ h₃) k) Q) := by
  subst hn hS hR
  unfold Ow own owns
  iintro ⟨#HR, ⟨%W, HO⟩, ⟨%fs, %hfs, Hs⟩, ⟨%Y, %fd, -, Hd⟩, Ht₁, Ht₂⟩ Hk
  iapply (Rounds.wp_send_pointsTo 𝒱₀ ER (Rd C) (c : Thread nD τ) none (κ₁ := K (c, some (j, r))) (κ₂ := K (n, some (j', s)))
    (c' := (n : Thread nD τ)) (src := src) (dst := dst) (sS := .dma (dq j r)) (sem := .dma (dq j' s)) (r₁ := 0) (r₂ := 0) (d₁ := 0) (d₂ := 0) (fd := fd) (fs := fs) (q := q)
    (by rw [duties_dma]; exact Finset.mem_singleton_self _) (by rw [duties_dma]; exact Finset.mem_singleton_self _)
    () () (amt j) hN (amount_dma C c j r 0) ((amount_dma C n j' s 0).trans hjj.symm) (owing l) rfl (W := W)
    (by
      rw [payload_dma]; refine BIBase.Entails.trans ?_ hp₁
      have := owns_intro (Ix := Unit) (Name := ℕ) (U := UU) (Lvl := ℕ) (c : Thread nD τ) src q fs
      rwa [hfs] at this)
    (by
      rw [payload_dma]; refine BIBase.Entails.trans ?_ hp₂
      have e : dst.view.read (Elt F) (dst.view.write (Elt F) fd (src.view.read (Elt F) fs) Finset.univ) = X :=
        (View.read_write_univ _ _).trans hfs
      rw [← e]
      exact owns_intro (Ix := Unit) (Name := ℕ) (U := UU) (Lvl := ℕ) (n : Thread nD τ) dst fullShare
        (dst.view.write (Elt F) fd (src.view.read (Elt F) fs) Finset.univ))) $$ [HO Hs Hd Ht₁ Ht₂]
  · isplitr; · iapply (rec_inv C K (c, some (j, r))); iexact HR
    isplitr; · iapply (rec_inv C K (n, some (j', s))); iexact HR
    isplitl [Hs]; · iexact Hs
    isplitl [Hd]; · iexact Hd
    isplitl [HO]; · iexact HO
    isplitl [Ht₁]; · iexact Ht₁
    isplitr; · iapply (rec_reached C K (c, some (j, r))); iexact HR
    isplitl [Ht₂]; · iexact Ht₂
    iapply (rec_reached C K (n, some (j', s))); iexact HR
  iintro ⟨Hc, HO⟩
  iapply Hk
  isplitl [Hc]; · iexact Hc
  iexists W; iexact HO

/-- What sending its rows to the device `r` on needs, for the weighted values, -/
def SO (c : Dev nD) (r : Fin 8) : sProp 𝕄 :=
  iprop(own c (poV (rot c r)) fullShare (rowsO (C.po c) (rot c r)) ∗ (∃ Y, own (F := F) (rot c r) (cbV c) fullShare Y)
    ∗ dutyTok ER (dcell c 0 r) 0 0 ∗ dutyTok ER (dcell (rot c r) 1 c) 0 0)
/-- for the statistics, -/
def SS (c : Dev nD) (r : Fin 8) : sProp 𝕄 :=
  iprop(own c (psV (rot c r)) fullShare (rowsS (C.ps c) (rot c r)) ∗ (∃ Y, own (F := F) (rot c r) (csV c) fullShare Y)
    ∗ dutyTok ER (dcell c 2 r) 0 0 ∗ dutyTok ER (dcell (rot c r) 3 c) 0 0)
/-- and for the rows of the result. -/
def SA (c : Dev nD) (r : Fin 8) : sProp 𝕄 :=
  iprop(own c resM (leaf 3 fullShare r) (C.rs c) ∗ (∃ Y, own (F := F) (rot c r) (outV c) fullShare Y)
    ∗ dutyTok ER (dcell c 4 r) 0 0 ∗ dutyTok ER (dcell (rot c r) 5 c) 0 0)

theorem wp_sendO (c n : Dev nD) (r : Fin 8) (hn : n = rot c r) (l : List (GSem nD τ sig × ℕ))
    {o₁ : Fin 3 → ℕ} {i₁ : ∀ a, o₁ a + S128x8x128.size a ≤ S1024x8x128.size a} (e₁ : o₁ = ![128 * (rot c r).val, 0, 0])
    {o₂ : Fin 4 → ℕ} {i₂ : ∀ a, o₂ a + S1x128x8x128.size a ≤ S8x128x8x128.size a} (e₂ : o₂ = ![c.val, 0, 0, 0])
    {o₃ : Fin 1 → ℕ} {i₃ : ∀ a, o₃ a + S1.size a ≤ S8.size a} (e₃ : o₃ = ![r.val])
    {o₄ : Fin 1 → ℕ} {i₄ : ∀ a, o₄ a + S1.size a ≤ S8.size a} (e₄ : o₄ = ![c.val])
    {hsc h₁ h₂ h₃} {α : Type} {Q : α → sProp 𝕄} {k : PUnit → Prog (TpuEff nD τ sig (Elt F) Λ₀ .tc) α} :
    iprop(records C K ∗ Ow c ((dcell (rot c r) 1 c, NO) :: l) ∗ SO C c r)
      ⊢ iprop(((cred (tallyAt (dcell c 0 r) () (amt 0)) ∗ Ow c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (poM.slice (Rect.unit (s := S1024x8x128) o₁ S128x8x128.size i₁) (fun _ => rfl))
                (.remote (Dev.tc n : Thread nD τ) ((cbM.slice (Rect.unit (s := S8x128x8x128) o₂ S1x128x8x128.size i₂) (fun _ => rfl)).squeeze
                  S128x8x128 squeezes_S1x128x8x128_S128x8x128)
                  (.dma ((cc0_scratch5.slice (Rect.unit (s := S8) o₃ S1.size i₃)).squeeze S_ squeezes_S1_S_).sem) hsc)
                (.dma ((cc0_scratch6.slice (Rect.unit (s := S8) o₄ S1.size i₄)).squeeze S_ squeezes_S1_S_).sem) h₁ h₂ h₃) k) Q) := by
  subst e₁ e₂
  unfold SO
  exact wp_send_gen C K c n (rot c r) hn 0 1 r c (dst := cbV c) (sem5 r e₃) (sem6 c e₄) rfl rfl fullShare (rowsO (C.po c) (rot c r))
    BIBase.Entails.rfl BIBase.Entails.rfl l

theorem wp_sendS (c n : Dev nD) (r : Fin 8) (hn : n = rot c r) (l : List (GSem nD τ sig × ℕ))
    {o₁ : Fin 2 → ℕ} {i₁ : ∀ a, o₁ a + S128x16.size a ≤ S1024x16.size a} (e₁ : o₁ = ![128 * (rot c r).val, 0])
    {o₂ : Fin 3 → ℕ} {i₂ : ∀ a, o₂ a + S1x128x16.size a ≤ S8x128x16.size a} (e₂ : o₂ = ![c.val, 0, 0])
    {o₃ : Fin 1 → ℕ} {i₃ : ∀ a, o₃ a + S1.size a ≤ S8.size a} (e₃ : o₃ = ![r.val])
    {o₄ : Fin 1 → ℕ} {i₄ : ∀ a, o₄ a + S1.size a ≤ S8.size a} (e₄ : o₄ = ![c.val])
    {hsc h₁ h₂ h₃} {α : Type} {Q : α → sProp 𝕄} {k : PUnit → Prog (TpuEff nD τ sig (Elt F) Λ₀ .tc) α} :
    iprop(records C K ∗ Ow c ((dcell (rot c r) 3 c, NS) :: l) ∗ SS C c r)
      ⊢ iprop(((cred (tallyAt (dcell c 2 r) () (amt 2)) ∗ Ow c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (psM.slice (Rect.unit (s := S1024x16) o₁ S128x16.size i₁) (fun _ => rfl))
                (.remote (Dev.tc n : Thread nD τ) ((csM.slice (Rect.unit (s := S8x128x16) o₂ S1x128x16.size i₂) (fun _ => rfl)).squeeze
                  S128x16 squeezes_S1x128x16_S128x16)
                  (.dma ((cc0_scratch7.slice (Rect.unit (s := S8) o₃ S1.size i₃)).squeeze S_ squeezes_S1_S_).sem) hsc)
                (.dma ((cc0_scratch8.slice (Rect.unit (s := S8) o₄ S1.size i₄)).squeeze S_ squeezes_S1_S_).sem) h₁ h₂ h₃) k) Q) := by
  subst e₁ e₂
  unfold SS
  exact wp_send_gen C K c n (rot c r) hn 2 3 r c (dst := csV c) (sem7 r e₃) (sem8 c e₄) rfl rfl fullShare (rowsS (C.ps c) (rot c r))
    BIBase.Entails.rfl BIBase.Entails.rfl l

theorem wp_sendA (c n : Dev nD) (r : Fin 8) (hn : n = rot c r) (l : List (GSem nD τ sig × ℕ))
    {o₂ : Fin 3 → ℕ} {i₂ : ∀ a, o₂ a + S1x128x1024.size a ≤ S1x1024x1024.size a} (e₂ : o₂ = ![0, 128 * c.val, 0])
    {o₃ : Fin 1 → ℕ} {i₃ : ∀ a, o₃ a + S1.size a ≤ S8.size a} (e₃ : o₃ = ![r.val])
    {o₄ : Fin 1 → ℕ} {i₄ : ∀ a, o₄ a + S1.size a ≤ S8.size a} (e₄ : o₄ = ![c.val])
    {hsc h₁ h₂ h₃} {α : Type} {Q : α → sProp 𝕄} {k : PUnit → Prog (TpuEff nD τ sig (Elt F) Λ₀ .tc) α} :
    iprop(records C K ∗ Ow c ((dcell (rot c r) 5 c, NR) :: l) ∗ SA C c r)
      ⊢ iprop(((cred (tallyAt (dcell c 4 r) () (amt 4)) ∗ Ow c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma resM
                (.remote (Dev.tc n : Thread nD τ) ((outM.slice (Rect.unit (s := S1x1024x1024) o₂ S1x128x1024.size i₂) (fun _ => rfl)).squeeze
                  S128x1024 squeezes_S1x128x1024_S128x1024)
                  (.dma ((cc0_scratch9.slice (Rect.unit (s := S8) o₃ S1.size i₃)).squeeze S_ squeezes_S1_S_).sem) hsc)
                (.dma ((cc0_scratch10.slice (Rect.unit (s := S8) o₄ S1.size i₄)).squeeze S_ squeezes_S1_S_).sem) h₁ h₂ h₃) k) Q) := by
  subst e₂
  unfold SA
  exact wp_send_gen C K c n (rot c r) hn 4 5 r c (dst := outV c) (sem9 r e₃) (sem10 c e₄) rfl rfl (leaf 3 fullShare r) (C.rs c)
    BIBase.Entails.rfl BIBase.Entails.rfl l

end Cert.Run

end
-- ==== Proof.Slots.lean ====
/-
# The slots of the buffers

A buffer is its eight slots together. Splitting one for sending and receiving, and putting it together again.
-/
module

public import proofs.«01_k».proof.Proof.Schedule
public import Idealize.ShloMosaic.Lib.Ring

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

open Idealize.ShloMosaic.ShareLeaves (leaf pointsTo_leaves)

section Squeeze
variable {sp : Space} {sh : Shape} {e : EltTy} (c : Dev nD) (m : Memref sig .tc sp sh e) (s' : Shape) (h : sh.Squeezes s')
  (q : PosShare TreeShare)

theorem own_squeeze (X : sh.Idx → Elt F e) :
    own c m q X ⊢ own c (m.squeeze s' h) q (fun j => X (Shape.reshapeEquiv h.numel_eq j)) := by
  unfold own owns
  iintro ⟨%f, %hf, H⟩
  iexists f
  isplitr
  · ipureintro; subst hf; rfl
  · rw [show (m.squeeze s' h).view.set = m.view.set from View.set_reshape _ _]; iexact H

theorem own_unsqueeze (X : sh.Idx → Elt F e) :
    own c (m.squeeze s' h) q (fun j => X (Shape.reshapeEquiv h.numel_eq j)) ⊢ own c m q X := by
  unfold own owns
  iintro ⟨%f, %hf, H⟩
  iexists f
  isplitr
  · ipureintro
    funext i
    have := congrFun hf ((Shape.reshapeEquiv h.numel_eq).symm i)
    simp only [Equiv.apply_symm_apply] at this
    rw [← this]
    show _ = m.view.read (Elt F) f (Shape.reshapeEquiv h.numel_eq ((Shape.reshapeEquiv h.numel_eq).symm i))
    rw [Equiv.apply_symm_apply]
  · rw [show (m.squeeze s' h).view.set = m.view.set from View.set_reshape _ _]; iexact H
end Squeeze

/-! ## The families of slots are disjoint and cover -/

abbrev rpo (d : Dev nD) : Rect S1024x8x128 := Rect.unit (s := S1024x8x128) ![128 * d.val, 0, 0] S128x8x128.size (inb_po d)
abbrev rps (d : Dev nD) : Rect S1024x16 := Rect.unit (s := S1024x16) ![128 * d.val, 0] S128x16.size (inb_ps d)
abbrev rcb (d : Dev nD) : Rect S8x128x8x128 := Rect.unit (s := S8x128x8x128) ![d.val, 0, 0, 0] S1x128x8x128.size (inb_cb d)
abbrev rcs (d : Dev nD) : Rect S8x128x16 := Rect.unit (s := S8x128x16) ![d.val, 0, 0] S1x128x16.size (inb_cs d)
abbrev rout (d : Dev nD) : Rect S1x1024x1024 := Rect.unit (s := S1x1024x1024) ![0, 128 * d.val, 0] S1x128x1024.size (inb_out d)

theorem disj_po (d d' : Dev nD) (h : d ≠ d') : Disjoint (rpo d).set (rpo d').set :=
  Ring.lead_disjoint (s := S1024x8x128) 0 128 _ _ inb_po (fun _ => rfl) rfl d d' h
theorem disj_ps (d d' : Dev nD) (h : d ≠ d') : Disjoint (rps d).set (rps d').set :=
  Ring.lead_disjoint (s := S1024x16) 0 128 _ _ inb_ps (fun _ => rfl) rfl d d' h
theorem disj_cb (d d' : Dev nD) (h : d ≠ d') : Disjoint (rcb d).set (rcb d').set :=
  Ring.lead_disjoint (s := S8x128x8x128) 0 1 _ _ inb_cb (fun b => (Nat.one_mul b.val).symm) rfl d d' h
theorem disj_cs (d d' : Dev nD) (h : d ≠ d') : Disjoint (rcs d).set (rcs d').set :=
  Ring.lead_disjoint (s := S8x128x16) 0 1 _ _ inb_cs (fun b => (Nat.one_mul b.val).symm) rfl d d' h
theorem disj_out (d d' : Dev nD) (h : d ≠ d') : Disjoint (rout d).set (rout d').set :=
  Ring.lead_disjoint (s := S1x1024x1024) 1 128 _ _ inb_out (fun _ => rfl) rfl d d' h

theorem cov_po : Finset.univ.biUnion (fun d => (rpo d).set) = Finset.univ :=
  Ring.lead_cover (s := S1024x8x128) 0 128 _ _ inb_po (fun _ => rfl) (by intro b a ha; fin_cases a <;> first | exact absurd rfl ha | rfl) rfl (by intro a ha; fin_cases a <;> first | exact absurd rfl ha | rfl) rfl
theorem cov_ps : Finset.univ.biUnion (fun d => (rps d).set) = Finset.univ :=
  Ring.lead_cover (s := S1024x16) 0 128 _ _ inb_ps (fun _ => rfl) (by intro b a ha; fin_cases a <;> first | exact absurd rfl ha | rfl) rfl (by intro a ha; fin_cases a <;> first | exact absurd rfl ha | rfl) rfl
theorem cov_cb : Finset.univ.biUnion (fun d => (rcb d).set) = Finset.univ :=
  Ring.lead_cover (s := S8x128x8x128) 0 1 _ _ inb_cb (fun b => (Nat.one_mul b.val).symm) (by intro b a ha; fin_cases a <;> first | exact absurd rfl ha | rfl) rfl (by intro a ha; fin_cases a <;> first | exact absurd rfl ha | rfl) rfl
theorem cov_cs : Finset.univ.biUnion (fun d => (rcs d).set) = Finset.univ :=
  Ring.lead_cover (s := S8x128x16) 0 1 _ _ inb_cs (fun b => (Nat.one_mul b.val).symm) (by intro b a ha; fin_cases a <;> first | exact absurd rfl ha | rfl) rfl (by intro a ha; fin_cases a <;> first | exact absurd rfl ha | rfl) rfl
theorem cov_out : Finset.univ.biUnion (fun d => (rout d).set) = Finset.univ :=
  Ring.lead_cover (s := S1x1024x1024) 1 128 _ _ inb_out (fun _ => rfl) (by intro b a ha; fin_cases a <;> first | exact absurd rfl ha | rfl) rfl (by intro a ha; fin_cases a <;> first | exact absurd rfl ha | rfl) rfl

/-! ## Sources -/

theorem emb_po (X : FVec F S1024x8x128 .f32) (d : Dev nD) : (fun j => X ((rpo d).emb j)) = rowsO X d := by
  funext y; unfold rowsO; congr 1; funext a; fin_cases a <;> apply Fin.ext <;> simp [Rect.unit, Rect.emb, ix3]
theorem emb_ps (X : FVec F S1024x16 .f32) (d : Dev nD) : (fun j => X ((rps d).emb j)) = rowsS X d := by
  funext y; unfold rowsS; congr 1; funext a; fin_cases a <;> apply Fin.ext <;> simp [Rect.unit, Rect.emb, ix2]

theorem po_split (c : Dev nD) (X : FVec F S1024x8x128 .f32) :
    own c poM fullShare X ⊢ bigSep Finset.univ fun r : Fin 8 => own c (poV (rot c r)) fullShare (rowsO X (rot c r)) := by
  refine (owns_rects (Val := Elt F) (c : Thread nD τ) poM fullShare rpo (fun _ _ => rfl) disj_po cov_po X).trans ?_
  rw [bigSep_univ_equiv (rotE c)]
  exact bigSep_mono fun r _ => BIBase.Entails.of_eq (congrArg (own c (poV (rot c r)) fullShare) (emb_po X (rot c r)))
theorem po_join (c : Dev nD) (X : FVec F S1024x8x128 .f32) :
    (bigSep Finset.univ fun r : Fin 8 => own c (poV (rot c r)) fullShare (rowsO X (rot c r))) ⊢ own c poM fullShare X := by
  refine BIBase.Entails.trans ?_ (owns_of_rects (Val := Elt F) (c : Thread nD τ) poM fullShare rpo (fun _ _ => rfl) disj_po cov_po X)
  refine BIBase.Entails.trans ?_ (BIBase.Entails.of_eq (bigSep_univ_equiv (rotE c) _).symm)
  exact bigSep_mono fun r _ => BIBase.Entails.of_eq (congrArg (own c (poV (rot c r)) fullShare) (emb_po X (rot c r)).symm)
theorem ps_split (c : Dev nD) (X : FVec F S1024x16 .f32) :
    own c psM fullShare X ⊢ bigSep Finset.univ fun r : Fin 8 => own c (psV (rot c r)) fullShare (rowsS X (rot c r)) := by
  refine (owns_rects (Val := Elt F) (c : Thread nD τ) psM fullShare rps (fun _ _ => rfl) disj_ps cov_ps X).trans ?_
  rw [bigSep_univ_equiv (rotE c)]
  exact bigSep_mono fun r _ => BIBase.Entails.of_eq (congrArg (own c (psV (rot c r)) fullShare) (emb_ps X (rot c r)))
theorem ps_join (c : Dev nD) (X : FVec F S1024x16 .f32) :
    (bigSep Finset.univ fun r : Fin 8 => own c (psV (rot c r)) fullShare (rowsS X (rot c r))) ⊢ own c psM fullShare X := by
  refine BIBase.Entails.trans ?_ (owns_of_rects (Val := Elt F) (c : Thread nD τ) psM fullShare rps (fun _ _ => rfl) disj_ps cov_ps X)
  refine BIBase.Entails.trans ?_ (BIBase.Entails.of_eq (bigSep_univ_equiv (rotE c) _).symm)
  exact bigSep_mono fun r _ => BIBase.Entails.of_eq (congrArg (own c (psV (rot c r)) fullShare) (emb_ps X (rot c r)).symm)

/-- The result rows are lent to the eight transfers a share each. -/
theorem res_leaves (c : Dev nD) (X : FVec F S128x1024 .f32) :
    (own c resM fullShare X : sProp 𝕄) = bigSep Finset.univ fun r : Fin 8 => own c resM (leaf 3 fullShare r) X := by
  refine (owns_whole (Val := Elt F) (c : Thread nD τ) cc0_scratch4 fullShare X).trans ?_
  have h := pointsTo_leaves (Ix := Unit) (Name := ℕ) (U := UU) (Lvl := ℕ) (Val := Elt F) (ℓ := (c : Thread nD τ).loc cc0_scratch4) Finset.univ X 3 fullShare
  refine h.trans ?_
  exact bigSep_congr (s := (Finset.univ : Finset (Fin 8))) fun r _ => (owns_whole (Val := Elt F) (c : Thread nD τ) cc0_scratch4 (leaf 3 fullShare r) X).symm

/-! ## Destinations -/

/-- The receive buffer whose slot `s` holds `Y s`. -/
def allO (Y : Dev nD → FVec F S128x8x128 .f32) : FVec F S8x128x8x128 .f32 := fun i => Y (i 0) (ix3 (i 1) (i 2) (i 3))
def allS (Y : Dev nD → FVec F S128x16 .f32) : FVec F S8x128x16 .f32 := fun i => Y (i 0) (ix2 (i 1) (i 2))
/-- The result whose rows `128 s …` are `Y s`. -/
def allR (Y : Dev nD → FVec F S128x1024 .f32) : FVec F S1x1024x1024 .f32 := fun i =>
  Y ⟨(i 1).val / 128, by have h : (i 1).val < 1024 := (i 1).isLt; show _ < 8; omega⟩
    (ix2 ⟨(i 1).val % 128, Nat.mod_lt _ (by decide)⟩ (i 2))

theorem cb_at (Y : Dev nD → FVec F S128x8x128 .f32) (s : Dev nD) :
    (fun j => (fun i => allO Y ((rcb s).emb i)) (Shape.reshapeEquiv (squeezes_S1x128x8x128_S128x8x128).numel_eq j)) = Y s := by
  funext j
  show allO Y ((rcb s).emb (Shape.reshapeEquiv _ j)) = Y s j
  rw [Shape.reshapeEquiv_cons_one]
  unfold allO
  have e0 : ((rcb s).emb (Fin.cons ⟨0, Nat.one_pos⟩ j)) 0 = s := Fin.ext (by show s.val + 1 * 0 = s.val; omega)
  rw [e0]; congr 1; funext a; fin_cases a <;> apply Fin.ext <;> simp [Rect.unit, Rect.emb, ix3] <;> rfl
theorem cs_at (Y : Dev nD → FVec F S128x16 .f32) (s : Dev nD) :
    (fun j => (fun i => allS Y ((rcs s).emb i)) (Shape.reshapeEquiv (squeezes_S1x128x16_S128x16).numel_eq j)) = Y s := by
  funext j
  show allS Y ((rcs s).emb (Shape.reshapeEquiv _ j)) = Y s j
  rw [Shape.reshapeEquiv_cons_one]
  unfold allS
  have e0 : ((rcs s).emb (Fin.cons ⟨0, Nat.one_pos⟩ j)) 0 = s := Fin.ext (by show s.val + 1 * 0 = s.val; omega)
  rw [e0]; congr 1; funext a; fin_cases a <;> apply Fin.ext <;> simp [Rect.unit, Rect.emb, ix2] <;> rfl
theorem out_at (Y : Dev nD → FVec F S128x1024 .f32) (s : Dev nD) :
    (fun j => (fun i => allR Y ((rout s).emb i)) (Shape.reshapeEquiv (squeezes_S1x128x1024_S128x1024).numel_eq j)) = Y s := by
  funext j
  show allR Y ((rout s).emb (Shape.reshapeEquiv _ j)) = Y s j
  rw [Shape.reshapeEquiv_cons_one]
  have hv : (((rout s).emb (Fin.cons ⟨0, Nat.one_pos⟩ j)) 1).val = 128 * s.val + (j 0).val := by
    show 128 * s.val + 1 * (j 0).val = _; omega
  have hj : (j 0).val < 128 := (j 0).isLt
  unfold allR
  have e0 : (⟨(((rout s).emb (Fin.cons ⟨0, Nat.one_pos⟩ j)) 1).val / 128, by rw [hv]; have := s.isLt; show _ < 8; have h8 : s.val < 8 := s.isLt; omega⟩ : Dev nD) = s :=
    Fin.ext (by show (((rout s).emb (Fin.cons ⟨0, Nat.one_pos⟩ j)) 1).val / 128 = s.val; rw [hv]; omega)
  rw [e0]; congr 1; funext a
  fin_cases a
  · apply Fin.ext; show (((rout s).emb (Fin.cons ⟨0, Nat.one_pos⟩ j)) 1).val % 128 = (j 0).val; rw [hv]; omega
  · apply Fin.ext; show 0 + 1 * (j 1).val = (j 1).val; omega

theorem cb_split (c : Dev nD) (X : FVec F S8x128x8x128 .f32) :
    own c cbM fullShare X ⊢ bigSep Finset.univ fun s => iprop(∃ Y, own (F := F) c (cbV s) fullShare Y) :=
  (owns_rects (Val := Elt F) (c : Thread nD τ) cbM fullShare rcb (fun _ _ => rfl) disj_cb cov_cb X).trans
    (bigSep_mono fun s _ => (own_squeeze c (cbS s) _ squeezes_S1x128x8x128_S128x8x128 fullShare _).trans (Laws.exists_intro_trans _ BIBase.Entails.rfl))
theorem cs_split (c : Dev nD) (X : FVec F S8x128x16 .f32) :
    own c csM fullShare X ⊢ bigSep Finset.univ fun s => iprop(∃ Y, own (F := F) c (csV s) fullShare Y) :=
  (owns_rects (Val := Elt F) (c : Thread nD τ) csM fullShare rcs (fun _ _ => rfl) disj_cs cov_cs X).trans
    (bigSep_mono fun s _ => (own_squeeze c (csS s) _ squeezes_S1x128x16_S128x16 fullShare _).trans (Laws.exists_intro_trans _ BIBase.Entails.rfl))
theorem out_split (c : Dev nD) (X : FVec F S1x1024x1024 .f32) :
    own c outM fullShare X ⊢ bigSep Finset.univ fun s => iprop(∃ Y, own (F := F) c (outV s) fullShare Y) :=
  (owns_rects (Val := Elt F) (c : Thread nD τ) outM fullShare rout (fun _ _ => rfl) disj_out cov_out X).trans
    (bigSep_mono fun s _ => (own_squeeze c (outS s) _ squeezes_S1x128x1024_S128x1024 fullShare _).trans (Laws.exists_intro_trans _ BIBase.Entails.rfl))

theorem cb_join (c : Dev nD) (Y : Dev nD → FVec F S128x8x128 .f32) :
    (bigSep Finset.univ fun s => own (F := F) c (cbV s) fullShare (Y s)) ⊢ own c cbM fullShare (allO Y) :=
  BIBase.Entails.trans (bigSep_mono fun s _ => by
      have := own_unsqueeze (F := F) c (cbS s) _ squeezes_S1x128x8x128_S128x8x128 fullShare (fun i => allO Y ((rcb s).emb i))
      rw [cb_at] at this; exact this)
    (owns_of_rects (Val := Elt F) (c : Thread nD τ) cbM fullShare rcb (fun _ _ => rfl) disj_cb cov_cb (allO Y))
theorem cs_join (c : Dev nD) (Y : Dev nD → FVec F S128x16 .f32) :
    (bigSep Finset.univ fun s => own (F := F) c (csV s) fullShare (Y s)) ⊢ own c csM fullShare (allS Y) :=
  BIBase.Entails.trans (bigSep_mono fun s _ => by
      have := own_unsqueeze (F := F) c (csS s) _ squeezes_S1x128x16_S128x16 fullShare (fun i => allS Y ((rcs s).emb i))
      rw [cs_at] at this; exact this)
    (owns_of_rects (Val := Elt F) (c : Thread nD τ) csM fullShare rcs (fun _ _ => rfl) disj_cs cov_cs (allS Y))
theorem out_join (c : Dev nD) (Y : Dev nD → FVec F S128x1024 .f32) :
    (bigSep Finset.univ fun s => own (F := F) c (outV s) fullShare (Y s)) ⊢ own c outM fullShare (allR Y) :=
  BIBase.Entails.trans (bigSep_mono fun s _ => by
      have := own_unsqueeze (F := F) c (outS s) _ squeezes_S1x128x1024_S128x1024 fullShare (fun i => allR Y ((rout s).emb i))
      rw [out_at] at this; exact this)
    (owns_of_rects (Val := Elt F) (c : Thread nD τ) outM fullShare rout (fun _ _ => rfl) disj_out cov_out (allR Y))

/-! ## Eight at a time -/

/-- A conjunction over eight places, written out. -/
theorem sep8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [bigSep_insert (by decide)]
  rw [bigSep_singleton]
  rfl

/-- The slots the others free for `c` and the ones `c` keeps for itself, in the order of sending. -/
theorem slots_around (c : Dev nD) :
    iprop((bigSep (Finset.univ.erase c) fun d => slots (F := F) d c) ∗ slots c c) ⊢ bigSep Finset.univ fun r : Fin 8 => slots (F := F) (rot c r) c := by
  rw [show (bigSep Finset.univ fun r : Fin 8 => slots (F := F) (rot c r) c) = bigSep Finset.univ fun d : Dev nD => slots (F := F) d c from
    (bigSep_univ_equiv (rotE c) (fun d : Dev nD => slots (F := F) d c)).symm,
    show (bigSep Finset.univ fun d : Dev nD => slots (F := F) d c) = iprop(slots c c ∗ bigSep (Finset.univ.erase c) fun d => slots d c) from
      bigSep_erase (Finset.mem_univ c)]
  iintro ⟨H, H'⟩
  isplitl [H']; · iexact H'
  iexact H

/-- A device's receive slots and result slots, by the device that writes them. -/
theorem slots_of (c : Dev nD) (X₁ : FVec F S8x128x8x128 .f32) (X₂ : FVec F S8x128x16 .f32) (X₃ : FVec F S1x1024x1024 .f32) :
    iprop(own c cbM fullShare X₁ ∗ own c csM fullShare X₂ ∗ own c outM fullShare X₃)
      ⊢ bigSep Finset.univ fun r : Fin 8 => slots (F := F) c (rot c r) := by
  rw [show (bigSep Finset.univ fun r : Fin 8 => slots (F := F) c (rot c r)) = bigSep Finset.univ fun d : Dev nD => slots (F := F) c d from
    (bigSep_univ_equiv (rotE c) (fun d : Dev nD => slots (F := F) c d)).symm]
  unfold slots
  rw [bigSep_sep', bigSep_sep']
  iintro ⟨H₁, H₂, H₃⟩
  isplitl [H₁]; · iapply (cb_split c X₁); iexact H₁
  isplitl [H₂]; · iapply (cs_split c X₂); iexact H₂
  iapply (out_split c X₃); iexact H₃

end Cert.Run

end
-- ==== Proof.Stretch.lean ====
/-
# The stretches of the body

The body is cut into seven stretches. Here are the stretches on the device's own buffers, and what the steps of each need.
-/
module

public import proofs.«01_k».proof.Proof.Steps
public import proofs.«01_k».proof.Proof.Slots

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

/-- The bodies' programs. -/
abbrev Pg (R : Type) : Type 1 := Prog (TpuEff nD τ sig (Elt F) Λ₀ .tc) R
/-- Running a program on device `c`. -/
abbrev WP (c : Dev nD) {R : Type} (p : Prog (TpuEff nD τ sig (Elt F) Λ₀ .tc) R) (Q : R → sProp 𝕄) : sProp 𝕄 :=
  wp frame (wpE (defs₀ (F := F)) 𝒱₀ (c : Thread nD τ) none) Set.univ p Q

/-- A whole buffer at given contents. -/
abbrev pts (c : Dev nD) {sp : Space} {sh : Shape} {e : EltTy} (m : Memref sig .tc sp sh e) (f : Buf (Elt F) (m.view.loc (c : Thread nD τ))) : sProp 𝕄 :=
  (m.view.loc (c : Thread nD τ) ↦{fullShare} f : sProp 𝕄)

/-- A whole buffer's contents, as what it is read to hold. -/
theorem pts_own (c : Dev nD) (b : Ref sig .tc) (f : b.ty.Contents (Elt F)) (X : b.ty.Contents (Elt F))
    (h : (Memref.whole b).view.read (Elt F) f = X) : pts c (Memref.whole b) f ⊢ own c (Memref.whole b) fullShare X := by
  subst h
  exact BIBase.Entails.of_eq (owns_whole (Val := Elt F) (c : Thread nD τ) b fullShare f).symm
theorem own_pts (c : Dev nD) (b : Ref sig .tc) (X : b.ty.Contents (Elt F)) : own c (Memref.whole b) fullShare X ⊢ pts c (Memref.whole b) X :=
  BIBase.Entails.of_eq (owns_whole (Val := Elt F) (c : Thread nD τ) b fullShare X)

/-- What signalling the device `r` on needs: the duty's token and the slots handed over. -/
def SG (c : Dev nD) (r : Fin 8) : sProp 𝕄 := iprop(dutyTok ER (bcell (rot c r)) 0 c ∗ slots (F := F) c (rot c r))

/-- The duty tokens a device has for the three transfers to the device `r` on. -/
def TK (c : Dev nD) (r : Fin 8) : sProp 𝕄 :=
  iprop((dutyTok ER (dcell c 0 r) 0 0 ∗ dutyTok ER (dcell (rot c r) 1 c) 0 0)
    ∗ (dutyTok ER (dcell c 2 r) 0 0 ∗ dutyTok ER (dcell (rot c r) 3 c) 0 0)
    ∗ (dutyTok ER (dcell c 4 r) 0 0 ∗ dutyTok ER (dcell (rot c r) 5 c) 0 0))

/-- What sending the result rows needs besides the rows. -/
def PA (c : Dev nD) (r : Fin 8) : sProp 𝕄 :=
  iprop((∃ Y, own (F := F) (rot c r) (outV c) fullShare Y) ∗ dutyTok ER (dcell c 4 r) 0 0 ∗ dutyTok ER (dcell (rot c r) 5 c) 0 0)

/-- The partial results cut for sending, with the slots and tokens. -/
theorem prep (C : Cont F) (c : Dev nD) :
    iprop(own c poM fullShare (C.po c) ∗ own c psM fullShare (C.ps c) ∗ (bigSep Finset.univ fun r : Fin 8 => slots (F := F) (rot c r) c)
        ∗ bigSep Finset.univ fun r : Fin 8 => TK (F := F) c r)
      ⊢ bigSep Finset.univ fun r : Fin 8 => iprop(SO C c r ∗ SS C c r ∗ PA (F := F) c r) := by
  have h : iprop((bigSep Finset.univ fun r : Fin 8 => own c (poV (rot c r)) fullShare (rowsO (C.po c) (rot c r)))
        ∗ (bigSep Finset.univ fun r : Fin 8 => own c (psV (rot c r)) fullShare (rowsS (C.ps c) (rot c r)))
        ∗ (bigSep Finset.univ fun r : Fin 8 => slots (F := F) (rot c r) c) ∗ bigSep Finset.univ fun r : Fin 8 => TK (F := F) c r)
      ⊢ bigSep Finset.univ fun r : Fin 8 => iprop(SO C c r ∗ SS C c r ∗ PA (F := F) c r) := by
    rw [← bigSep_sep', ← bigSep_sep', ← bigSep_sep']
    refine bigSep_mono fun r _ => ?_
    show iprop(own c (poV (rot c r)) fullShare (rowsO (C.po c) (rot c r)) ∗ own c (psV (rot c r)) fullShare (rowsS (C.ps c) (rot c r))
      ∗ slots (F := F) (rot c r) c ∗ TK (F := F) c r) ⊢ iprop(SO C c r ∗ SS C c r ∗ PA (F := F) c r)
    unfold SO SS PA slots TK
    iintro ⟨H₁, H₂, ⟨Ha, Hb, Hc⟩, ⟨T0, T1⟩, ⟨T2, T3⟩, T4, T5⟩
    isplitl [H₁ Ha T0 T1]
    · isplitl [H₁]; · iexact H₁
      isplitl [Ha]; · iexact Ha
      isplitl [T0]; · iexact T0
      iexact T1
    isplitl [H₂ Hb T2 T3]
    · isplitl [H₂]; · iexact H₂
      isplitl [Hb]; · iexact Hb
      isplitl [T2]; · iexact T2
      iexact T3
    isplitl [Hc]; · iexact Hc
    isplitl [T4]; · iexact T4
    iexact T5
  iintro ⟨H₁, H₂, H₃, H₄⟩
  ihave H₁ := (po_split c (C.po c)) $$ H₁
  ihave H₂ := (ps_split c (C.ps c)) $$ H₂
  iapply h
  isplitl [H₁]; · iexact H₁
  isplitl [H₂]; · iexact H₂
  isplitl [H₃]; · iexact H₃
  iexact H₄

/-- Everything the sends need, a device after another. -/
theorem prep8 (C : Cont F) (c : Dev nD) :
    iprop(own c poM fullShare (C.po c) ∗ own c psM fullShare (C.ps c) ∗ (bigSep Finset.univ fun r : Fin 8 => slots (F := F) (rot c r) c)
        ∗ bigSep Finset.univ fun r : Fin 8 => TK (F := F) c r)
      ⊢ iprop((SO C c 0 ∗ SS C c 0 ∗ PA (F := F) c 0)
            ∗ (SO C c 1 ∗ SS C c 1 ∗ PA (F := F) c 1) ∗ (SO C c 2 ∗ SS C c 2 ∗ PA (F := F) c 2) ∗ (SO C c 3 ∗ SS C c 3 ∗ PA (F := F) c 3)
            ∗ (SO C c 4 ∗ SS C c 4 ∗ PA (F := F) c 4) ∗ (SO C c 5 ∗ SS C c 5 ∗ PA (F := F) c 5) ∗ (SO C c 6 ∗ SS C c 6 ∗ PA (F := F) c 6)
            ∗ (SO C c 7 ∗ SS C c 7 ∗ PA (F := F) c 7)) :=
  (prep C c).trans (BIBase.Entails.of_eq (sep8 _))

/-- A send cell's wait: the credit its transfer brought, and the position. -/
abbrev SC (c : Dev nD) (j : Fin 6) (r : Fin 8) : sProp 𝕄 := cred (tallyAt (dcell c j r) () (amt j))
abbrev AT (c : Dev nD) (j : Fin 6) (r : Fin 8) : sProp 𝕄 := (atPos ER (dcell c j r) 0 ∅ 0 : sProp 𝕄)

variable (C : Cont F) (K : Dev nD × CK → ℕ)

/-- A transfer's credit is its shape's. -/
theorem credit_eq {s : Shape} (v w : View sig .tc .vmem s .f32) : v.dmaCredit = w.dmaCredit := rfl

/-- A wait for an amount of a block of weighted values, -/
theorem wp_dmaO (c : Dev nD) (j : Fin 6) (s : Fin 8) {sm : DmaSem sig} (hs : sm = dq j s) (hj : NO = amt j)
    (l : List (GSem nD τ sig × ℕ)) (hl : Above (lvj j) l)
    {src dst : Memref sig .tc .vmem S128x8x128 .f32} {h₁ : src.view.WordExact} {h₂ : dst.view.WordExact}
    {α : Type} {Q : α → sProp 𝕄} {k : PUnit → Prog (TpuEff nD τ sig (Elt F) Λ₀ .tc) α} :
    iprop(records C K ∗ levAts L lv ∗ Ow c l ∗ WT c j s)
      ⊢ iprop(((Ow c l ∗ DN c j s ∗ dpay C c j s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) :=
  wp_dma C K c j s hs ((credit_eq dst.view _).trans hj) l hl

/-- of a block of statistics, -/
theorem wp_dmaS (c : Dev nD) (j : Fin 6) (s : Fin 8) {sm : DmaSem sig} (hs : sm = dq j s) (hj : NS = amt j)
    (l : List (GSem nD τ sig × ℕ)) (hl : Above (lvj j) l)
    {src dst : Memref sig .tc .vmem S128x16 .f32} {h₁ : src.view.WordExact} {h₂ : dst.view.WordExact}
    {α : Type} {Q : α → sProp 𝕄} {k : PUnit → Prog (TpuEff nD τ sig (Elt F) Λ₀ .tc) α} :
    iprop(records C K ∗ levAts L lv ∗ Ow c l ∗ WT c j s)
      ⊢ iprop(((Ow c l ∗ DN c j s ∗ dpay C c j s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) :=
  wp_dma C K c j s hs ((credit_eq dst.view _).trans hj) l hl

/-- of a block of the result. -/
theorem wp_dmaR (c : Dev nD) (j : Fin 6) (s : Fin 8) {sm : DmaSem sig} (hs : sm = dq j s) (hj : NR = amt j)
    (l : List (GSem nD τ sig × ℕ)) (hl : Above (lvj j) l)
    {src dst : Memref sig .tc .vmem S128x1024 .f32} {h₁ : src.view.WordExact} {h₂ : dst.view.WordExact}
    {α : Type} {Q : α → sProp 𝕄} {k : PUnit → Prog (TpuEff nD τ sig (Elt F) Λ₀ .tc) α} :
    iprop(records C K ∗ levAts L lv ∗ Ow c l ∗ WT c j s)
      ⊢ iprop(((Ow c l ∗ DN c j s ∗ dpay C c j s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) :=
  wp_dma C K c j s hs ((credit_eq dst.view _).trans hj) l hl

abbrev S1 {R : Type} (κ : Dev nD → BitVec 32 → FVec F S1024x1024 .f32 → FVec F S1024x8x128 .f32 → FVec F S1024x8x128 .f32 → FVec F S256x1024 .f32 → FVec F S256x8x128 .f32 → FVec F S256x8x128 .f32 → FVec F S256x128 .f32 → FVec F S256x1x128 .f32 → Pg (F := F) R) : Pg (F := F) R :=
  st1 (F := F) xM (Memref.isWhole_whole _) wqM (Memref.isWhole_whole _) kM (Memref.isWhole_whole _) vM (Memref.isWhole_whole _)
    woM (Memref.isWhole_whole _) outM (Memref.isWhole_whole _) poM (Memref.isWhole_whole _) psM (Memref.isWhole_whole _)
    cbM (Memref.isWhole_whole _) csM (Memref.isWhole_whole _) resM (Memref.isWhole_whole _) cc0_scratch5 cc0_scratch6 cc0_scratch7
    cc0_scratch8 cc0_scratch9 cc0_scratch10  κ
abbrev S2 (d0 : Dev nD) (v2 : BitVec 32) (v36 : FVec F S1024x1024 .f32) (v38 v40 : FVec F S1024x8x128 .f32) (v45 : FVec F S256x1024 .f32)
    (v50 v55 : FVec F S256x8x128 .f32) (v56 : FVec F S256x128 .f32) (v57 : FVec F S256x1x128 .f32) {R : Type} (κ : BitVec 32 → Pg (F := F) R) : Pg (F := F) R :=
  st2 (F := F) xM (Memref.isWhole_whole _) wqM (Memref.isWhole_whole _) kM (Memref.isWhole_whole _) vM (Memref.isWhole_whole _)
    woM (Memref.isWhole_whole _) outM (Memref.isWhole_whole _) poM (Memref.isWhole_whole _) psM (Memref.isWhole_whole _)
    cbM (Memref.isWhole_whole _) csM (Memref.isWhole_whole _) resM (Memref.isWhole_whole _) cc0_scratch5 cc0_scratch6 cc0_scratch7
    cc0_scratch8 cc0_scratch9 cc0_scratch10 d0 v2 v36 v38 v40 v45 v50 v55 v56 v57 κ
abbrev S3 (d0 : Dev nD) (v2 v862 : BitVec 32) {R : Type} (κ : Pg (F := F) R) : Pg (F := F) R :=
  st3 (F := F) xM (Memref.isWhole_whole _) wqM (Memref.isWhole_whole _) kM (Memref.isWhole_whole _) vM (Memref.isWhole_whole _)
    woM (Memref.isWhole_whole _) outM (Memref.isWhole_whole _) poM (Memref.isWhole_whole _) psM (Memref.isWhole_whole _)
    cbM (Memref.isWhole_whole _) csM (Memref.isWhole_whole _) resM (Memref.isWhole_whole _) cc0_scratch5 cc0_scratch6 cc0_scratch7
    cc0_scratch8 cc0_scratch9 cc0_scratch10 d0 v2 v862 κ
abbrev S4 (d0 : Dev nD) (v2 : BitVec 32) {R : Type} (κ : Pg (F := F) R) : Pg (F := F) R :=
  st4 (F := F) xM (Memref.isWhole_whole _) wqM (Memref.isWhole_whole _) kM (Memref.isWhole_whole _) vM (Memref.isWhole_whole _)
    woM (Memref.isWhole_whole _) outM (Memref.isWhole_whole _) poM (Memref.isWhole_whole _) psM (Memref.isWhole_whole _)
    cbM (Memref.isWhole_whole _) csM (Memref.isWhole_whole _) resM (Memref.isWhole_whole _) cc0_scratch5 cc0_scratch6 cc0_scratch7
    cc0_scratch8 cc0_scratch9 cc0_scratch10 d0 v2 κ
abbrev S5 (d0 : Dev nD) (v2 : BitVec 32) {R : Type} (κ : BitVec 32 → Pg (F := F) R) : Pg (F := F) R :=
  st5 (F := F) xM (Memref.isWhole_whole _) wqM (Memref.isWhole_whole _) kM (Memref.isWhole_whole _) vM (Memref.isWhole_whole _)
    woM (Memref.isWhole_whole _) outM (Memref.isWhole_whole _) poM (Memref.isWhole_whole _) psM (Memref.isWhole_whole _)
    cbM (Memref.isWhole_whole _) csM (Memref.isWhole_whole _) resM (Memref.isWhole_whole _) cc0_scratch5 cc0_scratch6 cc0_scratch7
    cc0_scratch8 cc0_scratch9 cc0_scratch10 d0 v2 κ
abbrev S6 (d0 : Dev nD) (v2 : BitVec 32) (v1280 : BitVec 32) {R : Type} (κ : Pg (F := F) R) : Pg (F := F) R :=
  st6 (F := F) xM (Memref.isWhole_whole _) wqM (Memref.isWhole_whole _) kM (Memref.isWhole_whole _) vM (Memref.isWhole_whole _)
    woM (Memref.isWhole_whole _) outM (Memref.isWhole_whole _) poM (Memref.isWhole_whole _) psM (Memref.isWhole_whole _)
    cbM (Memref.isWhole_whole _) csM (Memref.isWhole_whole _) resM (Memref.isWhole_whole _) cc0_scratch5 cc0_scratch6 cc0_scratch7
    cc0_scratch8 cc0_scratch9 cc0_scratch10 d0 v2 v1280 κ
abbrev S7 (d0 : Dev nD) {R : Type} (κ : Pg (F := F) R) : Pg (F := F) R :=
  st7 (F := F) xM (Memref.isWhole_whole _) wqM (Memref.isWhole_whole _) kM (Memref.isWhole_whole _) vM (Memref.isWhole_whole _)
    woM (Memref.isWhole_whole _) outM (Memref.isWhole_whole _) poM (Memref.isWhole_whole _) psM (Memref.isWhole_whole _)
    cbM (Memref.isWhole_whole _) csM (Memref.isWhole_whole _) resM (Memref.isWhole_whole _) cc0_scratch5 cc0_scratch6 cc0_scratch7
    cc0_scratch8 cc0_scratch9 cc0_scratch10 d0 κ

end Cert.Run

end
-- ==== Proof.Spec2.lean ====
/-
# The partial results
-/
module

public import proofs.«01_k».proof.Proof.Stretch

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

variable (C : Cont F) (K : Dev nD × CK → ℕ)

theorem slh8 (c : Fin 4) : S256x8x128.Slices ![64 * c.val, 0, 0] S64x8x128 := by revert c; decide
theorem slh2 (c : Fin 4) : S256x8.Slices ![64 * c.val, 0] S64x8 := by revert c; decide

set_option maxHeartbeats 2000000 in
/-- The groups' values and statistics, computed and stored; then the first transfer. -/
theorem spec2 (c : Dev nD) (v2 : BitVec 32) (q : FVec F S1024x1024 .f32) (k v : FVec F S1024x8x128 .f32) (f6 : FVec F S1024x8x128 .f32) (f7 : FVec F S1024x16 .f32)
    (hpo : C.po c = partO q k v) (hps : C.ps c = partS q k)
    {R : Type} {κ : BitVec 32 → Pg (F := F) R} {Q : R → sProp 𝕄} :
    iprop(records C K ∗ Ow c (obB c []) ∗ pts c poM f6 ∗ pts c psM f7 ∗ (bigSep Finset.univ fun r : Fin 8 => slots (F := F) (rot c r) c)
        ∗ bigSep Finset.univ fun r : Fin 8 => TK (F := F) c r)
      ⊢ iprop((∀ w, (Ow c ((dcell (rot c 0) 3 c, NS) :: obS c [1, 2, 3, 4, 5, 6, 7]) ∗ SC (F := F) c 0 0 ∗ (SS C c 0 ∗ PA (F := F) c 0)
            ∗ (SO C c 1 ∗ SS C c 1 ∗ PA (F := F) c 1) ∗ (SO C c 2 ∗ SS C c 2 ∗ PA (F := F) c 2) ∗ (SO C c 3 ∗ SS C c 3 ∗ PA (F := F) c 3)
            ∗ (SO C c 4 ∗ SS C c 4 ∗ PA (F := F) c 4) ∗ (SO C c 5 ∗ SS C c 5 ∗ PA (F := F) c 5) ∗ (SO C c 6 ∗ SS C c 6 ∗ PA (F := F) c 6)
            ∗ (SO C c 7 ∗ SS C c 7 ∗ PA (F := F) c 7))
          -∗ WP c (κ w) Q)
        -∗ WP c (S2 c v2 q k v (gq q 0) (gk k 0) (gk v 0) (hq (gq q 0) 0) (hk (gk k 0) 0) κ) Q) := by
  iintro ⟨#HR, HO, H6, H7, Hs, Ht⟩ Hk
  unfold WP S2 st2
  sl_exec
  ihave H6 := (pts_own c cc0_scratch0 _ (C.po c) ?_) $$ H6
  rotate_left 1
  ihave H7 := (pts_own c cc0_scratch1 _ (C.ps c) ?_) $$ H7
  rotate_left 1
  ihave Hp := (prep8 C c) $$ [H6 H7 Hs Ht]
  · isplitl [H6]; · iexact H6
    isplitl [H7]; · iexact H7
    isplitl [Hs]; · iexact Hs
    iexact Ht
  icases Hp with ⟨⟨P0, P0'⟩, P1, P2, P3, P4, P5, P6, P7⟩
  iapply (wp_sendO C K c ⟨k0_dev8 c, k0_dev8_lt c⟩ 0 (Fin.ext ((k0_dev8_eq c).trans (rot0 c))) _ (k0_off3_eq c 0) (k0_off2_eq c) rfl (k0_off1_eq c)) $$ [HO P0]
  · isplitr; · iexact HR
    isplitl [HO]; · iexact HO
    iexact P0
  iintro ⟨HC, HO⟩
  sl_exec
  iapply Hk
  isplitl [HO]; · iexact HO
  isplitl [HC]; · iexact HC
  isplitl [P0']; · iexact P0'
  isplitl [P1]; · iexact P1
  isplitl [P2]; · iexact P2
  isplitl [P3]; · iexact P3
  isplitl [P4]; · iexact P4
  isplitl [P5]; · iexact P5
  isplitl [P6]; · iexact P6
  iexact P7
  · rw [hpo]; funext y
    refine View.read_writes_apply_of_pieces (Val := Elt F) (s := S1024x8x128) (e := .f32) _ _ (partO q k v) _ ?_ y ?_
    rotate_left 1
    · exact View.cover_of_tiledL _ ![64, 8, 128] (by rfl) y
    refine List.forall_mem_cons.2 ⟨fun x => piece_o 3 3 q k v ![960, 0, 0] (by decide) rfl (slh8 3) x, ?_⟩
    refine List.forall_mem_cons.2 ⟨fun x => piece_o 3 2 q k v ![704, 0, 0] (by decide) rfl (slh8 2) x, ?_⟩
    refine List.forall_mem_cons.2 ⟨fun x => piece_o 3 1 q k v ![448, 0, 0] (by decide) rfl (slh8 1) x, ?_⟩
    refine List.forall_mem_cons.2 ⟨fun x => piece_o 3 0 q k v ![192, 0, 0] (by decide) rfl (slh8 0) x, ?_⟩
    refine List.forall_mem_cons.2 ⟨fun x => piece_o 2 3 q k v ![896, 0, 0] (by decide) rfl (slh8 3) x, ?_⟩
    refine List.forall_mem_cons.2 ⟨fun x => piece_o 2 2 q k v ![640, 0, 0] (by decide) rfl (slh8 2) x, ?_⟩
    refine List.forall_mem_cons.2 ⟨fun x => piece_o 2 1 q k v ![384, 0, 0] (by decide) rfl (slh8 1) x, ?_⟩
    refine List.forall_mem_cons.2 ⟨fun x => piece_o 2 0 q k v ![128, 0, 0] (by decide) rfl (slh8 0) x, ?_⟩
    refine List.forall_mem_cons.2 ⟨fun x => piece_o 1 3 q k v ![832, 0, 0] (by decide) rfl (slh8 3) x, ?_⟩
    refine List.forall_mem_cons.2 ⟨fun x => piece_o 1 2 q k v ![576, 0, 0] (by decide) rfl (slh8 2) x, ?_⟩
    refine List.forall_mem_cons.2 ⟨fun x => piece_o 1 1 q k v ![320, 0, 0] (by decide) rfl (slh8 1) x, ?_⟩
    refine List.forall_mem_cons.2 ⟨fun x => piece_o 1 0 q k v ![64, 0, 0] (by decide) rfl (slh8 0) x, ?_⟩
    refine List.forall_mem_cons.2 ⟨fun x => piece_o 0 3 q k v ![768, 0, 0] (by decide) rfl (slh8 3) x, ?_⟩
    refine List.forall_mem_cons.2 ⟨fun x => piece_o 0 2 q k v ![512, 0, 0] (by decide) rfl (slh8 2) x, ?_⟩
    refine List.forall_mem_cons.2 ⟨fun x => piece_o 0 1 q k v ![256, 0, 0] (by decide) rfl (slh8 1) x, ?_⟩
    refine List.forall_mem_cons.2 ⟨fun x => piece_o 0 0 q k v ![0, 0, 0] (by decide) rfl (slh8 0) x, ?_⟩
    exact fun p hp => absurd hp List.not_mem_nil
  · rw [hps]; funext y
    refine View.read_writes_apply_of_pieces (Val := Elt F) (s := S1024x16) (e := .f32) _ _ (partS q k) _ ?_ y ?_
    rotate_left 1
    · exact View.cover_of_tiledL _ ![64, 8] (by rfl) y
    refine List.forall_mem_cons.2 ⟨fun x => piece_l 3 3 q k ![960, 8] (by decide) rfl (slh2 3) x, ?_⟩
    refine List.forall_mem_cons.2 ⟨fun x => piece_m 3 3 q k ![960, 0] (by decide) rfl (slh2 3) x, ?_⟩
    refine List.forall_mem_cons.2 ⟨fun x => piece_l 3 2 q k ![704, 8] (by decide) rfl (slh2 2) x, ?_⟩
    refine List.forall_mem_cons.2 ⟨fun x => piece_m 3 2 q k ![704, 0] (by decide) rfl (slh2 2) x, ?_⟩
    refine List.forall_mem_cons.2 ⟨fun x => piece_l 3 1 q k ![448, 8] (by decide) rfl (slh2 1) x, ?_⟩
    refine List.forall_mem_cons.2 ⟨fun x => piece_m 3 1 q k ![448, 0] (by decide) rfl (slh2 1) x, ?_⟩
    refine List.forall_mem_cons.2 ⟨fun x => piece_l 3 0 q k ![192, 8] (by decide) rfl (slh2 0) x, ?_⟩
    refine List.forall_mem_cons.2 ⟨fun x => piece_m 3 0 q k ![192, 0] (by decide) rfl (slh2 0) x, ?_⟩
    refine List.forall_mem_cons.2 ⟨fun x => piece_l 2 3 q k ![896, 8] (by decide) rfl (slh2 3) x, ?_⟩
    refine List.forall_mem_cons.2 ⟨fun x => piece_m 2 3 q k ![896, 0] (by decide) rfl (slh2 3) x, ?_⟩
    refine List.forall_mem_cons.2 ⟨fun x => piece_l 2 2 q k ![640, 8] (by decide) rfl (slh2 2) x, ?_⟩
    refine List.forall_mem_cons.2 ⟨fun x => piece_m 2 2 q k ![640, 0] (by decide) rfl (slh2 2) x, ?_⟩
    refine List.forall_mem_cons.2 ⟨fun x => piece_l 2 1 q k ![384, 8] (by decide) rfl (slh2 1) x, ?_⟩
    refine List.forall_mem_cons.2 ⟨fun x => piece_m 2 1 q k ![384, 0] (by decide) rfl (slh2 1) x, ?_⟩
    refine List.forall_mem_cons.2 ⟨fun x => piece_l 2 0 q k ![128, 8] (by decide) rfl (slh2 0) x, ?_⟩
    refine List.forall_mem_cons.2 ⟨fun x => piece_m 2 0 q k ![128, 0] (by decide) rfl (slh2 0) x, ?_⟩
    refine List.forall_mem_cons.2 ⟨fun x => piece_l 1 3 q k ![832, 8] (by decide) rfl (slh2 3) x, ?_⟩
    refine List.forall_mem_cons.2 ⟨fun x => piece_m 1 3 q k ![832, 0] (by decide) rfl (slh2 3) x, ?_⟩
    refine List.forall_mem_cons.2 ⟨fun x => piece_l 1 2 q k ![576, 8] (by decide) rfl (slh2 2) x, ?_⟩
    refine List.forall_mem_cons.2 ⟨fun x => piece_m 1 2 q k ![576, 0] (by decide) rfl (slh2 2) x, ?_⟩
    refine List.forall_mem_cons.2 ⟨fun x => piece_l 1 1 q k ![320, 8] (by decide) rfl (slh2 1) x, ?_⟩
    refine List.forall_mem_cons.2 ⟨fun x => piece_m 1 1 q k ![320, 0] (by decide) rfl (slh2 1) x, ?_⟩
    refine List.forall_mem_cons.2 ⟨fun x => piece_l 1 0 q k ![64, 8] (by decide) rfl (slh2 0) x, ?_⟩
    refine List.forall_mem_cons.2 ⟨fun x => piece_m 1 0 q k ![64, 0] (by decide) rfl (slh2 0) x, ?_⟩
    refine List.forall_mem_cons.2 ⟨fun x => piece_l 0 3 q k ![768, 8] (by decide) rfl (slh2 3) x, ?_⟩
    refine List.forall_mem_cons.2 ⟨fun x => piece_m 0 3 q k ![768, 0] (by decide) rfl (slh2 3) x, ?_⟩
    refine List.forall_mem_cons.2 ⟨fun x => piece_l 0 2 q k ![512, 8] (by decide) rfl (slh2 2) x, ?_⟩
    refine List.forall_mem_cons.2 ⟨fun x => piece_m 0 2 q k ![512, 0] (by decide) rfl (slh2 2) x, ?_⟩
    refine List.forall_mem_cons.2 ⟨fun x => piece_l 0 1 q k ![256, 8] (by decide) rfl (slh2 1) x, ?_⟩
    refine List.forall_mem_cons.2 ⟨fun x => piece_m 0 1 q k ![256, 0] (by decide) rfl (slh2 1) x, ?_⟩
    refine List.forall_mem_cons.2 ⟨fun x => piece_l 0 0 q k ![0, 8] (by decide) rfl (slh2 0) x, ?_⟩
    refine List.forall_mem_cons.2 ⟨fun x => piece_m 0 0 q k ![0, 0] (by decide) rfl (slh2 0) x, ?_⟩
    exact fun p hp => absurd hp List.not_mem_nil

end Cert.Run

end
-- ==== Proof.Spec3.lean ====
/-
# The transfers of the partial results
-/
module

public import proofs.«01_k».proof.Proof.Stretch

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

variable (C : Cont F) (K : Dev nD × CK → ℕ)

set_option maxHeartbeats 2000000 in
theorem spec3 (c : Dev nD) (v2 v862 : BitVec 32) {R : Type} {κ : Pg (F := F) R} {Q : R → sProp 𝕄} :
    iprop(records C K ∗ Ow c ((dcell (rot c 0) 3 c, NS) :: obS c [1, 2, 3, 4, 5, 6, 7])
        ∗ SS C c 0 ∗ SO C c 1 ∗ SS C c 1 ∗ SO C c 2 ∗ SS C c 2 ∗ SO C c 3 ∗ SS C c 3 ∗ SO C c 4 ∗ SS C c 4 ∗ SO C c 5 ∗ SS C c 5 ∗ SO C c 6 ∗ SS C c 6 ∗ SO C c 7)
      ⊢ iprop(((Ow c ((dcell (rot c 7) 3 c, NS) :: obA c [0, 1, 2, 3, 4, 5, 6, 7])
            ∗ SC (F := F) c 2 0 ∗ SC (F := F) c 0 1 ∗ SC (F := F) c 2 1 ∗ SC (F := F) c 0 2 ∗ SC (F := F) c 2 2 ∗ SC (F := F) c 0 3 ∗ SC (F := F) c 2 3 ∗ SC (F := F) c 0 4 ∗ SC (F := F) c 2 4 ∗ SC (F := F) c 0 5 ∗ SC (F := F) c 2 5 ∗ SC (F := F) c 0 6 ∗ SC (F := F) c 2 6 ∗ SC (F := F) c 0 7)
          -∗ WP c κ Q)
        -∗ WP c (S3 c v2 v862 κ) Q) := by
  iintro ⟨#HR, HO, S0, P1, S1, P2, S2, P3, S3, P4, S4, P5, S5, P6, S6, P7⟩ Hk
  unfold WP S3 st3
  sl_exec
  iapply (wp_sendS C K c ⟨k0_dev9 c, k0_dev9_lt c⟩ 0 (Fin.ext ((k0_dev9_eq c).trans (rot0 c))) _ (k0_off5_eq c 0) (k0_off4_eq c) rfl (k0_off1_eq c)) $$ [HO S0]
  · isplitr; · iexact HR
    isplitl [HO]; · iexact HO
    iexact S0
  iintro ⟨S0, HO⟩
  sl_exec
  iapply (wp_sendO C K c ⟨k0_dev10 c, k0_dev10_lt c⟩ 1 (Fin.ext (k0_dev10_eq c)) _ (k0_off3_eq c 1) (k0_off2_eq c) rfl (k0_off1_eq c)) $$ [HO P1]
  · isplitr; · iexact HR
    isplitl [HO]; · iexact HO
    iexact P1
  iintro ⟨P1, HO⟩
  sl_exec
  iapply (wp_sendS C K c ⟨k0_dev11 c, k0_dev11_lt c⟩ 1 (Fin.ext (k0_dev11_eq c)) _ (k0_off5_eq c 1) (k0_off4_eq c) rfl (k0_off1_eq c)) $$ [HO S1]
  · isplitr; · iexact HR
    isplitl [HO]; · iexact HO
    iexact S1
  iintro ⟨S1, HO⟩
  sl_exec
  iapply (wp_sendO C K c ⟨k0_dev12 c, k0_dev12_lt c⟩ 2 (Fin.ext (k0_dev12_eq c)) _ (k0_off3_eq c 2) (k0_off2_eq c) rfl (k0_off1_eq c)) $$ [HO P2]
  · isplitr; · iexact HR
    isplitl [HO]; · iexact HO
    iexact P2
  iintro ⟨P2, HO⟩
  sl_exec
  iapply (wp_sendS C K c ⟨k0_dev13 c, k0_dev13_lt c⟩ 2 (Fin.ext (k0_dev13_eq c)) _ (k0_off5_eq c 2) (k0_off4_eq c) rfl (k0_off1_eq c)) $$ [HO S2]
  · isplitr; · iexact HR
    isplitl [HO]; · iexact HO
    iexact S2
  iintro ⟨S2, HO⟩
  sl_exec
  iapply (wp_sendO C K c ⟨k0_dev14 c, k0_dev14_lt c⟩ 3 (Fin.ext (k0_dev14_eq c)) _ (k0_off3_eq c 3) (k0_off2_eq c) rfl (k0_off1_eq c)) $$ [HO P3]
  · isplitr; · iexact HR
    isplitl [HO]; · iexact HO
    iexact P3
  iintro ⟨P3, HO⟩
  sl_exec
  iapply (wp_sendS C K c ⟨k0_dev15 c, k0_dev15_lt c⟩ 3 (Fin.ext (k0_dev15_eq c)) _ (k0_off5_eq c 3) (k0_off4_eq c) rfl (k0_off1_eq c)) $$ [HO S3]
  · isplitr; · iexact HR
    isplitl [HO]; · iexact HO
    iexact S3
  iintro ⟨S3, HO⟩
  sl_exec
  iapply (wp_sendO C K c ⟨k0_dev16 c, k0_dev16_lt c⟩ 4 (Fin.ext (k0_dev16_eq c)) _ (k0_off3_eq c 4) (k0_off2_eq c) rfl (k0_off1_eq c)) $$ [HO P4]
  · isplitr; · iexact HR
    isplitl [HO]; · iexact HO
    iexact P4
  iintro ⟨P4, HO⟩
  sl_exec
  iapply (wp_sendS C K c ⟨k0_dev17 c, k0_dev17_lt c⟩ 4 (Fin.ext (k0_dev17_eq c)) _ (k0_off5_eq c 4) (k0_off4_eq c) rfl (k0_off1_eq c)) $$ [HO S4]
  · isplitr; · iexact HR
    isplitl [HO]; · iexact HO
    iexact S4
  iintro ⟨S4, HO⟩
  sl_exec
  iapply (wp_sendO C K c ⟨k0_dev18 c, k0_dev18_lt c⟩ 5 (Fin.ext (k0_dev18_eq c)) _ (k0_off3_eq c 5) (k0_off2_eq c) rfl (k0_off1_eq c)) $$ [HO P5]
  · isplitr; · iexact HR
    isplitl [HO]; · iexact HO
    iexact P5
  iintro ⟨P5, HO⟩
  sl_exec
  iapply (wp_sendS C K c ⟨k0_dev19 c, k0_dev19_lt c⟩ 5 (Fin.ext (k0_dev19_eq c)) _ (k0_off5_eq c 5) (k0_off4_eq c) rfl (k0_off1_eq c)) $$ [HO S5]
  · isplitr; · iexact HR
    isplitl [HO]; · iexact HO
    iexact S5
  iintro ⟨S5, HO⟩
  sl_exec
  iapply (wp_sendO C K c ⟨k0_dev20 c, k0_dev20_lt c⟩ 6 (Fin.ext (k0_dev20_eq c)) _ (k0_off3_eq c 6) (k0_off2_eq c) rfl (k0_off1_eq c)) $$ [HO P6]
  · isplitr; · iexact HR
    isplitl [HO]; · iexact HO
    iexact P6
  iintro ⟨P6, HO⟩
  sl_exec
  iapply (wp_sendS C K c ⟨k0_dev21 c, k0_dev21_lt c⟩ 6 (Fin.ext (k0_dev21_eq c)) _ (k0_off5_eq c 6) (k0_off4_eq c) rfl (k0_off1_eq c)) $$ [HO S6]
  · isplitr; · iexact HR
    isplitl [HO]; · iexact HO
    iexact S6
  iintro ⟨S6, HO⟩
  sl_exec
  iapply (wp_sendO C K c ⟨k0_dev22 c, k0_dev22_lt c⟩ 7 (Fin.ext (k0_dev22_eq c)) _ (k0_off3_eq c 7) (k0_off2_eq c) rfl (k0_off1_eq c)) $$ [HO P7]
  · isplitr; · iexact HR
    isplitl [HO]; · iexact HO
    iexact P7
  iintro ⟨P7, HO⟩
  sl_exec
  iapply Hk
  isplitl [HO]; · iexact HO
  isplitl [S0]; · iexact S0
  isplitl [P1]; · iexact P1
  isplitl [S1]; · iexact S1
  isplitl [P2]; · iexact P2
  isplitl [S2]; · iexact S2
  isplitl [P3]; · iexact P3
  isplitl [S3]; · iexact S3
  isplitl [P4]; · iexact P4
  isplitl [S4]; · iexact S4
  isplitl [P5]; · iexact P5
  isplitl [S5]; · iexact S5
  isplitl [P6]; · iexact P6
  isplitl [S6]; · iexact S6
  iexact P7

end Cert.Run

end
-- ==== Proof.Spec4.lean ====
/-
# The arrival of the partial results
-/
module

public import proofs.«01_k».proof.Proof.Stretch

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

variable (C : Cont F) (K : Dev nD × CK → ℕ)

/-- Waiting for the rows from device `s`. -/
def RW (c : Dev nD) (s : Fin 8) : sProp 𝕄 := iprop(WT (F := F) c 1 s ∗ WT (F := F) c 3 s)
/-- The rows from device `s`, come. -/
def RD (c : Dev nD) (s : Fin 8) : sProp 𝕄 := iprop((DN (F := F) c 1 s ∗ dpay C c 1 s) ∗ DN (F := F) c 3 s ∗ dpay C c 3 s)

set_option maxHeartbeats 2000000 in
theorem spec4 (c : Dev nD) (v2 : BitVec 32) {R : Type} {κ : Pg (F := F) R} {Q : R → sProp 𝕄} :
    iprop(records C K ∗ levAts L lv ∗ Ow c ((dcell (rot c 7) 3 c, NS) :: obA c [0, 1, 2, 3, 4, 5, 6, 7]) ∗ SS C c 7
        ∗ RW (F := F) c 0 ∗ RW (F := F) c 1 ∗ RW (F := F) c 2 ∗ RW (F := F) c 3 ∗ RW (F := F) c 4 ∗ RW (F := F) c 5)
      ⊢ iprop(((Ow c (obA c [0, 1, 2, 3, 4, 5, 6, 7]) ∗ SC (F := F) c 2 7
            ∗ RD C c 0 ∗ RD C c 1 ∗ RD C c 2 ∗ RD C c 3 ∗ RD C c 4 ∗ RD C c 5)
          -∗ WP c κ Q)
        -∗ WP c (S4 c v2 κ) Q) := by
  unfold RW RD
  iintro ⟨#HR, #Hlev, HO, S7, ⟨A0, B0⟩, ⟨A1, B1⟩, ⟨A2, B2⟩, ⟨A3, B3⟩, ⟨A4, B4⟩, A5, B5⟩ Hk
  unfold WP S4 st4
  sl_exec
  iapply (wp_sendS C K c ⟨k0_dev23 c, k0_dev23_lt c⟩ 7 (Fin.ext (k0_dev23_eq c)) _ (k0_off5_eq c 7) (k0_off4_eq c) rfl (k0_off1_eq c)) $$ [HO S7]
  · isplitr; · iexact HR
    isplitl [HO]; · iexact HO
    iexact S7
  iintro ⟨S7, HO⟩
  sl_exec
  iapply (wp_dmaO C K c 1 0 (sem6 0 rfl) rfl _ (above_obA c _)) $$ [HO A0]
  · isplitr; · iexact HR
    isplitr; · iexact Hlev
    isplitl [HO]; · iexact HO
    iexact A0
  iintro ⟨HO, A0, C0⟩
  sl_exec
  iapply (wp_dmaS C K c 3 0 (sem8 0 rfl) rfl _ (above_obA c _)) $$ [HO B0]
  · isplitr; · iexact HR
    isplitr; · iexact Hlev
    isplitl [HO]; · iexact HO
    iexact B0
  iintro ⟨HO, B0, D0⟩
  sl_exec
  iapply (wp_dmaO C K c 1 1 (sem6 1 rfl) rfl _ (above_obA c _)) $$ [HO A1]
  · isplitr; · iexact HR
    isplitr; · iexact Hlev
    isplitl [HO]; · iexact HO
    iexact A1
  iintro ⟨HO, A1, C1⟩
  sl_exec
  iapply (wp_dmaS C K c 3 1 (sem8 1 rfl) rfl _ (above_obA c _)) $$ [HO B1]
  · isplitr; · iexact HR
    isplitr; · iexact Hlev
    isplitl [HO]; · iexact HO
    iexact B1
  iintro ⟨HO, B1, D1⟩
  sl_exec
  iapply (wp_dmaO C K c 1 2 (sem6 2 rfl) rfl _ (above_obA c _)) $$ [HO A2]
  · isplitr; · iexact HR
    isplitr; · iexact Hlev
    isplitl [HO]; · iexact HO
    iexact A2
  iintro ⟨HO, A2, C2⟩
  sl_exec
  iapply (wp_dmaS C K c 3 2 (sem8 2 rfl) rfl _ (above_obA c _)) $$ [HO B2]
  · isplitr; · iexact HR
    isplitr; · iexact Hlev
    isplitl [HO]; · iexact HO
    iexact B2
  iintro ⟨HO, B2, D2⟩
  sl_exec
  iapply (wp_dmaO C K c 1 3 (sem6 3 rfl) rfl _ (above_obA c _)) $$ [HO A3]
  · isplitr; · iexact HR
    isplitr; · iexact Hlev
    isplitl [HO]; · iexact HO
    iexact A3
  iintro ⟨HO, A3, C3⟩
  sl_exec
  iapply (wp_dmaS C K c 3 3 (sem8 3 rfl) rfl _ (above_obA c _)) $$ [HO B3]
  · isplitr; · iexact HR
    isplitr; · iexact Hlev
    isplitl [HO]; · iexact HO
    iexact B3
  iintro ⟨HO, B3, D3⟩
  sl_exec
  iapply (wp_dmaO C K c 1 4 (sem6 4 rfl) rfl _ (above_obA c _)) $$ [HO A4]
  · isplitr; · iexact HR
    isplitr; · iexact Hlev
    isplitl [HO]; · iexact HO
    iexact A4
  iintro ⟨HO, A4, C4⟩
  sl_exec
  iapply (wp_dmaS C K c 3 4 (sem8 4 rfl) rfl _ (above_obA c _)) $$ [HO B4]
  · isplitr; · iexact HR
    isplitr; · iexact Hlev
    isplitl [HO]; · iexact HO
    iexact B4
  iintro ⟨HO, B4, D4⟩
  sl_exec
  iapply (wp_dmaO C K c 1 5 (sem6 5 rfl) rfl _ (above_obA c _)) $$ [HO A5]
  · isplitr; · iexact HR
    isplitr; · iexact Hlev
    isplitl [HO]; · iexact HO
    iexact A5
  iintro ⟨HO, A5, C5⟩
  sl_exec
  iapply (wp_dmaS C K c 3 5 (sem8 5 rfl) rfl _ (above_obA c _)) $$ [HO B5]
  · isplitr; · iexact HR
    isplitr; · iexact Hlev
    isplitl [HO]; · iexact HO
    iexact B5
  iintro ⟨HO, B5, D5⟩
  sl_exec
  iapply Hk
  isplitl [HO]; · iexact HO
  isplitl [S7]; · iexact S7
  isplitl [A0 C0 B0 D0]
  · isplitl [A0 C0]
    · isplitl [A0]; · iexact A0
      iexact C0
    isplitl [B0]; · iexact B0
    iexact D0
  isplitl [A1 C1 B1 D1]
  · isplitl [A1 C1]
    · isplitl [A1]; · iexact A1
      iexact C1
    isplitl [B1]; · iexact B1
    iexact D1
  isplitl [A2 C2 B2 D2]
  · isplitl [A2 C2]
    · isplitl [A2]; · iexact A2
      iexact C2
    isplitl [B2]; · iexact B2
    iexact D2
  isplitl [A3 C3 B3 D3]
  · isplitl [A3 C3]
    · isplitl [A3]; · iexact A3
      iexact C3
    isplitl [B3]; · iexact B3
    iexact D3
  isplitl [A4 C4 B4 D4]
  · isplitl [A4 C4]
    · isplitl [A4]; · iexact A4
      iexact C4
    isplitl [B4]; · iexact B4
    iexact D4
  isplitl [A5 C5]
  · isplitl [A5]; · iexact A5
    iexact C5
  isplitl [B5]; · iexact B5
  iexact D5

end Cert.Run

end
-- ==== Proof.Spec1.lean ====
/-
# The signals, the barrier and the loads
-/
module

public import proofs.«01_k».proof.Proof.Stretch

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

variable (C : Cont F) (K : Dev nD × CK → ℕ)

theorem z2 : (![0, 0] : Fin 2 → ℕ) = fun _ => 0 := by decide
theorem z3 : (![0, 0, 0] : Fin 3 → ℕ) = fun _ => 0 := by decide
theorem z4 : (![0, 0, 0, 0] : Fin 4 → ℕ) = fun _ => 0 := by decide
/-- Reading a whole staged operand gives its contents. -/
theorem rdX (X : FVec F S1x1024x1024 .f32) (i) :
    View.readAt (Elt F) xM.view (Rect.unit (s := S1x1024x1024) ![0, 0, 0] S1x1024x1024.size i).toLoadRect X = X :=
  Memref.readAt_unit_zero (Elt F) cc0_stg0_0 z3 i X
theorem rdQ (X : FVec F S1024x1024 .f32) (i) :
    View.readAt (Elt F) wqM.view (Rect.unit (s := S1024x1024) ![0, 0] S1024x1024.size i).toLoadRect X = X :=
  Memref.readAt_unit_zero (Elt F) cc0_stg1_0 z2 i X
theorem rdK (X : FVec F S1x1024x8x128 .f32) (i) :
    View.readAt (Elt F) kM.view (Rect.unit (s := S1x1024x8x128) ![0, 0, 0, 0] S1x1024x8x128.size i).toLoadRect X = X :=
  Memref.readAt_unit_zero (Elt F) cc0_stg2_0 z4 i X
theorem rdV (X : FVec F S1x1024x8x128 .f32) (i) :
    View.readAt (Elt F) vM.view (Rect.unit (s := S1x1024x8x128) ![0, 0, 0, 0] S1x1024x8x128.size i).toLoadRect X = X :=
  Memref.readAt_unit_zero (Elt F) cc0_stg3_0 z4 i X

set_option maxHeartbeats 1000000 in
theorem spec1 (c : Dev nD) (X : FVec F S1x1024x1024 .f32) (wq : FVec F S1024x1024 .f32) (k v : FVec F S1x1024x8x128 .f32) {R : Type}
    {κ : Dev nD → BitVec 32 → FVec F S1024x1024 .f32 → FVec F S1024x8x128 .f32 → FVec F S1024x8x128 .f32 → FVec F S256x1024 .f32
      → FVec F S256x8x128 .f32 → FVec F S256x8x128 .f32 → FVec F S256x128 .f32 → FVec F S256x1x128 .f32 → Pg (F := F) R} {Q : R → sProp 𝕄} :
    iprop(records C K ∗ levAts L lv ∗ Ow c (obB c [1, 2, 3, 4, 5, 6, 7]) ∗ cred (tallyAt (bcell c) () 7) ∗ atPos ER (bcell c) 0 ∅ 0
        ∗ (SG (F := F) c 1 ∗ SG (F := F) c 2 ∗ SG (F := F) c 3 ∗ SG (F := F) c 4 ∗ SG (F := F) c 5 ∗ SG (F := F) c 6 ∗ SG (F := F) c 7) ∗ slots (F := F) c c
        ∗ pts c xM X ∗ pts c wqM wq ∗ pts c kM k ∗ pts c vM v)
      ⊢ iprop((∀ v2, (Ow c (obB c []) ∗ atPos ER (bcell c) 1 ∅ 0 ∗ (bigSep Finset.univ fun r : Fin 8 => slots (F := F) (rot c r) c)
            ∗ pts c xM X ∗ pts c wqM wq ∗ pts c kM k ∗ pts c vM v)
          -∗ WP c (κ c v2 (k0_pay1 X wq) (k0_pay2 k) (k0_pay3 v) (k0_pay4 X wq) (k0_pay5 k) (k0_pay6 v) (k0_pay7 X wq) (k0_pay8 k)) Q)
        -∗ WP c (S1 κ) Q) := by
  unfold SG
  iintro ⟨#HR, #Hlev, HO, Hc, Ha, ⟨⟨Ht1, Hs1⟩, ⟨Ht2, Hs2⟩, ⟨Ht3, Hs3⟩, ⟨Ht4, Hs4⟩, ⟨Ht5, Hs5⟩, ⟨Ht6, Hs6⟩, Ht7, Hs7⟩, Hs0, HX, Hq, Hkk, Hv⟩ Hk
  unfold WP S1 st1
  sl_exec
  iapply (wp_sig C K c ⟨k0_dev1 c, k0_dev1_lt c⟩ 1 (by decide) (Fin.ext (k0_dev1_eq c)) (obB c [2, 3, 4, 5, 6, 7]) rfl) $$ [HO Ht1 Hs1]
  · isplitr; · iexact HR
    isplitl [HO]; · iexact HO
    isplitl [Ht1]; · iexact Ht1
    iexact Hs1
  iintro HO
  sl_exec
  iapply (wp_sig C K c ⟨k0_dev2 c, k0_dev2_lt c⟩ 2 (by decide) (Fin.ext (k0_dev2_eq c)) (obB c [3, 4, 5, 6, 7]) rfl) $$ [HO Ht2 Hs2]
  · isplitr; · iexact HR
    isplitl [HO]; · iexact HO
    isplitl [Ht2]; · iexact Ht2
    iexact Hs2
  iintro HO
  sl_exec
  iapply (wp_sig C K c ⟨k0_dev3 c, k0_dev3_lt c⟩ 3 (by decide) (Fin.ext (k0_dev3_eq c)) (obB c [4, 5, 6, 7]) rfl) $$ [HO Ht3 Hs3]
  · isplitr; · iexact HR
    isplitl [HO]; · iexact HO
    isplitl [Ht3]; · iexact Ht3
    iexact Hs3
  iintro HO
  sl_exec
  iapply (wp_sig C K c ⟨k0_dev4 c, k0_dev4_lt c⟩ 4 (by decide) (Fin.ext (k0_dev4_eq c)) (obB c [5, 6, 7]) rfl) $$ [HO Ht4 Hs4]
  · isplitr; · iexact HR
    isplitl [HO]; · iexact HO
    isplitl [Ht4]; · iexact Ht4
    iexact Hs4
  iintro HO
  sl_exec
  iapply (wp_sig C K c ⟨k0_dev5 c, k0_dev5_lt c⟩ 5 (by decide) (Fin.ext (k0_dev5_eq c)) (obB c [6, 7]) rfl) $$ [HO Ht5 Hs5]
  · isplitr; · iexact HR
    isplitl [HO]; · iexact HO
    isplitl [Ht5]; · iexact Ht5
    iexact Hs5
  iintro HO
  sl_exec
  iapply (wp_sig C K c ⟨k0_dev6 c, k0_dev6_lt c⟩ 6 (by decide) (Fin.ext (k0_dev6_eq c)) (obB c [7]) rfl) $$ [HO Ht6 Hs6]
  · isplitr; · iexact HR
    isplitl [HO]; · iexact HO
    isplitl [Ht6]; · iexact Ht6
    iexact Hs6
  iintro HO
  sl_exec
  iapply (wp_sig C K c ⟨k0_dev7 c, k0_dev7_lt c⟩ 7 (by decide) (Fin.ext (k0_dev7_eq c)) (obB c []) rfl) $$ [HO Ht7 Hs7]
  · isplitr; · iexact HR
    isplitl [HO]; · iexact HO
    isplitl [Ht7]; · iexact Ht7
    iexact Hs7
  iintro HO
  sl_exec
  iapply (wp_bar C K c rfl) $$ [HO Hc Ha]
  · isplitr; · iexact HR
    isplitr; · iexact Hlev
    isplitl [HO]; · iexact HO
    isplitl [Hc]; · iexact Hc
    iexact Ha
  iintro ⟨HO, Ha, Hp⟩
  sl_exec
  ihave Hp' := (slots_around (F := F) c) $$ [Hp Hs0]
  · isplitl [Hp]; · iexact Hp
    iexact Hs0
  rw [show spec1.sl.r X wq = k0_pay1 X wq by delta spec1.sl.r; rw [rdX, rdQ]]
  rw [show spec1.sl.r_1 k = k0_pay2 k by delta spec1.sl.r_1; rw [rdK]]
  rw [show spec1.sl.r_2 v = k0_pay3 v by delta spec1.sl.r_2; rw [rdV]]
  rw [show spec1.sl.r_3 X wq = k0_pay4 X wq by delta spec1.sl.r_3; rw [rdX, rdQ]]
  rw [show spec1.sl.r_4 k = k0_pay5 k by delta spec1.sl.r_4; rw [rdK]]
  rw [show spec1.sl.r_5 v = k0_pay6 v by delta spec1.sl.r_5; rw [rdV]]
  rw [show spec1.sl.r_6 X wq = k0_pay7 X wq by delta spec1.sl.r_6; rw [rdX, rdQ]]
  rw [show spec1.sl.r_7 k = k0_pay8 k by delta spec1.sl.r_7; rw [rdK]]
  iapply Hk
  isplitl [HO]; · iexact HO
  isplitl [Ha]; · iexact Ha
  isplitl [Hp']; · iexact Hp'
  isplitl [HX]; · iexact HX
  isplitl [Hq]; · iexact Hq
  isplitl [Hkk]; · iexact Hkk
  iexact Hv

end Cert.Run

end
-- ==== Proof.Spec5.lean ====
/-
# The reduction
-/
module

public import proofs.«01_k».proof.Proof.Spec4
public import proofs.«01_k».proof.Proof.Spec1

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

variable (C : Cont F) (K : Dev nD × CK → ℕ)

theorem ibM (j : Fin 8) : ∀ a, (![j.val, 0, 0] : Fin 3 → ℕ) a + S1x128x8.size a ≤ S8x128x16.size a := by revert j; decide
theorem ibL (j : Fin 8) : ∀ a, (![j.val, 0, 8] : Fin 3 → ℕ) a + S1x128x8.size a ≤ S8x128x16.size a := by revert j; decide
theorem ibO (j : Fin 8) : ∀ a, (![j.val, 0, 0, 0] : Fin 4 → ℕ) a + S1x128x8x128.size a ≤ S8x128x8x128.size a := by revert j; decide

/-- The maxima read from a slot, -/
theorem cM (Y : Dev nD → FVec F S128x16 .f32) (j : Fin 8) :
    shapeCast S128x8 (View.readAt (Elt F) csM.view (Rect.unit (s := S8x128x16) ![j.val, 0, 0] S1x128x8.size (ibM j)).toLoadRect (allS Y))
      shapeCasts_S1x128x8_S128x8 = sM (Y j) := by
  funext y
  have hy : y = ix2 (y 0) (y 1) := by funext a; fin_cases a <;> rfl
  rw [hy]
  refine (ValueIdx.shapeCast_1ab_ab_apply _ _ _ _).trans ?_
  show allS Y _ = _
  unfold allS sM
  congr 1
  · funext a; fin_cases a <;> exact Fin.ext (by first | (show 0 + 1 * (y 0).val = (y 0).val; omega) | (show 0 + 1 * (y 1).val = (y 1).val; omega))
/-- the weight sums, -/
theorem cL (Y : Dev nD → FVec F S128x16 .f32) (j : Fin 8) :
    shapeCast S128x8 (View.readAt (Elt F) csM.view (Rect.unit (s := S8x128x16) ![j.val, 0, 8] S1x128x8.size (ibL j)).toLoadRect (allS Y))
      shapeCasts_S1x128x8_S128x8 = sL (Y j) := by
  funext y
  have hy : y = ix2 (y 0) (y 1) := by funext a; fin_cases a <;> rfl
  rw [hy]
  refine (ValueIdx.shapeCast_1ab_ab_apply _ _ _ _).trans ?_
  show allS Y _ = _
  unfold allS sL
  congr 1
  · funext a; fin_cases a <;> exact Fin.ext (by first | (show 0 + 1 * (y 0).val = (y 0).val; omega) | (show 8 + 1 * (y 1).val = 8 + (y 1).val; omega))
/-- and the weighted values. -/
theorem cO (Y : Dev nD → FVec F S128x8x128 .f32) (j : Fin 8) :
    shapeCast S128x8x128 (View.readAt (Elt F) cbM.view (Rect.unit (s := S8x128x8x128) ![j.val, 0, 0, 0] S1x128x8x128.size (ibO j)).toLoadRect (allO Y))
      shapeCasts_S1x128x8x128_S128x8x128 = Y j := by
  funext y
  have hy : y = ix3 (y 0) (y 1) (y 2) := by funext a; fin_cases a <;> rfl
  rw [hy]
  refine (ValueIdx.shapeCast_1abc_abc_apply _ _ _ _ _).trans ?_
  show allO Y _ = _
  unfold allO
  congr 1
  · funext a; fin_cases a <;> exact Fin.ext (by first | (show 0 + 1 * (y 0).val = (y 0).val; omega) | (show 0 + 1 * (y 1).val = (y 1).val; omega) | (show 0 + 1 * (y 2).val = (y 2).val; omega))
theorem rdW (X : FVec F S1024x1024 .f32) (i) :
    View.readAt (Elt F) woM.view (Rect.unit (s := S1024x1024) ![0, 0] S1024x1024.size i).toLoadRect X = X :=
  Memref.readAt_unit_zero (Elt F) cc0_stg4_0 z2 i X
theorem emb00 (i) (x : S128x1024.Idx) : (Rect.unit (s := S128x1024) ![0, 0] S128x1024.size i).emb x = x := by
  funext a; fin_cases a <;> exact Fin.ext (by first | (show 0 + 1 * (x 0).val = (x 0).val; omega) | (show 0 + 1 * (x 1).val = (x 1).val; omega))

theorem comb_reads (c : Dev nD) (wo : FVec F S1024x1024 .f32) :
    comb (fun j => shapeCast S128x8 (View.readAt (Elt F) csM.view (Rect.unit (s := S8x128x16) ![j.val, 0, 0] S1x128x8.size (ibM j)).toLoadRect (allS fun s => rowsS (C.ps s) c)) shapeCasts_S1x128x8_S128x8)
        (fun j => shapeCast S128x8 (View.readAt (Elt F) csM.view (Rect.unit (s := S8x128x16) ![j.val, 0, 8] S1x128x8.size (ibL j)).toLoadRect (allS fun s => rowsS (C.ps s) c)) shapeCasts_S1x128x8_S128x8)
        (fun j => shapeCast S128x8x128 (View.readAt (Elt F) cbM.view (Rect.unit (s := S8x128x8x128) ![j.val, 0, 0, 0] S1x128x8x128.size (ibO j)).toLoadRect (allO fun s => rowsO (C.po s) c)) shapeCasts_S1x128x8x128_S128x8x128)
        (View.readAt (Elt F) woM.view (Rect.unit (s := S1024x1024) ![0, 0] S1024x1024.size inb_S1024x1024_S1024x1024_0_0).toLoadRect wo)
      = comb (fun j => sM (rowsS (C.ps j) c)) (fun j => sL (rowsS (C.ps j) c)) (fun j => rowsO (C.po j) c) wo := by
  rw [rdW, funext (cM fun s => rowsS (C.ps s) c), funext (cL fun s => rowsS (C.ps s) c), funext (cO fun s => rowsO (C.po s) c)]

theorem dp_cb (c : Dev nD) : (bigSep Finset.univ fun s : Fin 8 => dpay C c 1 s) ⊢ own c cbM fullShare (allO fun s => rowsO (C.po s) c) := cb_join c _
theorem dp_cs (c : Dev nD) : (bigSep Finset.univ fun s : Fin 8 => dpay C c 3 s) ⊢ own c csM fullShare (allS fun s => rowsS (C.ps s) c) := cs_join c _

set_option maxHeartbeats 2000000 in
theorem spec5 (c : Dev nD) (v2 : BitVec 32) (wo : FVec F S1024x1024 .f32) (f10 : FVec F S128x1024 .f32)
    (hrs : C.rs c = comb (fun j => sM (rowsS (C.ps j) c)) (fun j => sL (rowsS (C.ps j) c)) (fun j => rowsO (C.po j) c) wo)
    {R : Type} {κ : BitVec 32 → Pg (F := F) R} {Q : R → sProp 𝕄} :
    iprop(records C K ∗ levAts L lv ∗ Ow c (obA c [0, 1, 2, 3, 4, 5, 6, 7])
        ∗ (RW (F := F) c 6 ∗ RW (F := F) c 7) ∗ (RD C c 0 ∗ RD C c 1 ∗ RD C c 2 ∗ RD C c 3 ∗ RD C c 4 ∗ RD C c 5)
        ∗ (PA (F := F) c 0 ∗ PA (F := F) c 1 ∗ PA (F := F) c 2 ∗ PA (F := F) c 3 ∗ PA (F := F) c 4 ∗ PA (F := F) c 5 ∗ PA (F := F) c 6 ∗ PA (F := F) c 7)
        ∗ pts c woM wo ∗ pts c resM f10)
      ⊢ iprop((∀ w, (Ow c (obA c [1, 2, 3, 4, 5, 6, 7]) ∗ SC (F := F) c 4 0
            ∗ (SA C c 1 ∗ SA C c 2 ∗ SA C c 3 ∗ SA C c 4 ∗ SA C c 5 ∗ SA C c 6 ∗ SA C c 7)
            ∗ (bigSep Finset.univ fun s : Fin 8 => DN (F := F) c 1 s) ∗ (bigSep Finset.univ fun s : Fin 8 => DN (F := F) c 3 s)
            ∗ (∃ Y, own (F := F) c cbM fullShare Y) ∗ (∃ Y, own (F := F) c csM fullShare Y) ∗ pts c woM wo)
          -∗ WP c (κ w) Q)
        -∗ WP c (S5 c v2 κ) Q) := by
  unfold RW RD
  iintro ⟨#HR, #Hlev, HO, ⟨⟨A6, B6⟩, A7, B7⟩, ⟨⟨⟨A0, C0⟩, B0, D0⟩, ⟨⟨A1, C1⟩, B1, D1⟩, ⟨⟨A2, C2⟩, B2, D2⟩, ⟨⟨A3, C3⟩, B3, D3⟩, ⟨⟨A4, C4⟩, B4, D4⟩, ⟨A5, C5⟩, B5, D5⟩, ⟨P0, P1, P2, P3, P4, P5, P6, P7⟩, Hw, Hr⟩ Hk
  unfold WP S5 st5
  sl_exec
  iapply (wp_dmaO C K c 1 6 (sem6 6 rfl) rfl _ (above_obA c _)) $$ [HO A6]
  · isplitr; · iexact HR
    isplitr; · iexact Hlev
    isplitl [HO]; · iexact HO
    iexact A6
  iintro ⟨HO, A6, C6⟩
  sl_exec
  iapply (wp_dmaS C K c 3 6 (sem8 6 rfl) rfl _ (above_obA c _)) $$ [HO B6]
  · isplitr; · iexact HR
    isplitr; · iexact Hlev
    isplitl [HO]; · iexact HO
    iexact B6
  iintro ⟨HO, B6, D6⟩
  sl_exec
  iapply (wp_dmaO C K c 1 7 (sem6 7 rfl) rfl _ (above_obA c _)) $$ [HO A7]
  · isplitr; · iexact HR
    isplitr; · iexact Hlev
    isplitl [HO]; · iexact HO
    iexact A7
  iintro ⟨HO, A7, C7⟩
  sl_exec
  iapply (wp_dmaS C K c 3 7 (sem8 7 rfl) rfl _ (above_obA c _)) $$ [HO B7]
  · isplitr; · iexact HR
    isplitr; · iexact Hlev
    isplitl [HO]; · iexact HO
    iexact B7
  iintro ⟨HO, B7, D7⟩
  ihave HC : (bigSep Finset.univ fun s : Fin 8 => dpay C c 1 s) $$ [C0 C1 C2 C3 C4 C5 C6 C7]
  · iapply (BIBase.Entails.of_eq (sep8 _).symm)
    isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  ihave HD : (bigSep Finset.univ fun s : Fin 8 => dpay C c 3 s) $$ [D0 D1 D2 D3 D4 D5 D6 D7]
  · iapply (BIBase.Entails.of_eq (sep8 _).symm)
    isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  ihave HC := (dp_cb C c) $$ HC
  ihave HD := (dp_cs C c) $$ HD
  ihave HC := (own_pts c cc0_scratch2 _) $$ HC
  ihave HD := (own_pts c cc0_scratch3 _) $$ HD
  sl_exec
  ihave Hr := (pts_own c cc0_scratch4 _ (C.rs c) ?_) $$ Hr
  rotate_left 1
  ihave Hr := (BIBase.Entails.of_eq ((res_leaves c (C.rs c)).trans (sep8 _))) $$ Hr
  icases Hr with ⟨R0, R1, R2, R3, R4, R5, R6, R7⟩
  ihave P0 : SA C c 0 $$ [R0 P0]
  · unfold SA PA
    isplitl [R0]; · iexact R0
    iexact P0
  ihave P1 : SA C c 1 $$ [R1 P1]
  · unfold SA PA
    isplitl [R1]; · iexact R1
    iexact P1
  ihave P2 : SA C c 2 $$ [R2 P2]
  · unfold SA PA
    isplitl [R2]; · iexact R2
    iexact P2
  ihave P3 : SA C c 3 $$ [R3 P3]
  · unfold SA PA
    isplitl [R3]; · iexact R3
    iexact P3
  ihave P4 : SA C c 4 $$ [R4 P4]
  · unfold SA PA
    isplitl [R4]; · iexact R4
    iexact P4
  ihave P5 : SA C c 5 $$ [R5 P5]
  · unfold SA PA
    isplitl [R5]; · iexact R5
    iexact P5
  ihave P6 : SA C c 6 $$ [R6 P6]
  · unfold SA PA
    isplitl [R6]; · iexact R6
    iexact P6
  ihave P7 : SA C c 7 $$ [R7 P7]
  · unfold SA PA
    isplitl [R7]; · iexact R7
    iexact P7
  iapply (wp_sendA C K c ⟨k0_dev24 c, k0_dev24_lt c⟩ 0 (Fin.ext ((k0_dev24_eq c).trans (rot0 c))) _ (k0_off6_eq c) rfl (k0_off1_eq c)) $$ [HO P0]
  · isplitr; · iexact HR
    isplitl [HO]; · iexact HO
    iexact P0
  iintro ⟨P0, HO⟩
  sl_exec
  iapply Hk
  isplitl [HO]; · iexact HO
  isplitl [P0]; · iexact P0
  isplitl [P1 P2 P3 P4 P5 P6 P7]
  · isplitl [P1]; · iexact P1
    isplitl [P2]; · iexact P2
    isplitl [P3]; · iexact P3
    isplitl [P4]; · iexact P4
    isplitl [P5]; · iexact P5
    isplitl [P6]; · iexact P6
    iexact P7
  isplitl [A0 A1 A2 A3 A4 A5 A6 A7]
  · iapply (BIBase.Entails.of_eq (sep8 _).symm)
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0 B1 B2 B3 B4 B5 B6 B7]
  · iapply (BIBase.Entails.of_eq (sep8 _).symm)
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [HC]
  · iexists _; iapply (BIBase.Entails.of_eq (owns_whole (Val := Elt F) (c : Thread nD τ) cc0_scratch2 fullShare _).symm); iexact HC
  isplitl [HD]
  · iexists _; iapply (BIBase.Entails.of_eq (owns_whole (Val := Elt F) (c : Thread nD τ) cc0_scratch3 fullShare _).symm); iexact HD
  iexact Hw
  · rw [hrs, ← comb_reads C c wo]; funext y
    refine View.read_writes_apply_of_pieces (Val := Elt F) (s := S128x1024) (e := .f32) _ _ (comb _ _ _ _) _ ?_ y ?_
    rotate_left 1
    · exact View.cover_of_tiledL _ ![128, 1024] (by rfl) y
    refine List.forall_mem_cons.2 ⟨fun x => ?_, fun p hp => absurd hp List.not_mem_nil⟩
    refine Eq.trans ?_ (congrArg (comb _ _ _ _) (emb00 inb_S128x1024_S128x1024_0_0 x).symm)
    refine Eq.trans (b := shapeCast S128x1024 (comb _ _ _ _) shapeCasts_S128x1024_S128x1024 x) ?_ (congrFun (shapeCast_self _ _) x)
    rfl

end Cert.Run

end
-- ==== Proof.Spec6.lean ====
/-
# The transfers of the result rows
-/
module

public import proofs.«01_k».proof.Proof.Stretch

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

variable (C : Cont F) (K : Dev nD × CK → ℕ)

/-- A cell after its round, and what it brought. -/
def DP (c : Dev nD) (j : Fin 6) (s : Fin 8) : sProp 𝕄 := iprop(DN (F := F) c j s ∗ dpay C c j s)

set_option maxHeartbeats 2000000 in
theorem spec6 (c : Dev nD) (v2 v1280 : BitVec 32) {R : Type} {κ : Pg (F := F) R} {Q : R → sProp 𝕄} :
    iprop(records C K ∗ levAts L lv ∗ Ow c (obA c [1, 2, 3, 4, 5, 6, 7])
        ∗ SA C c 1 ∗ SA C c 2 ∗ SA C c 3 ∗ SA C c 4 ∗ SA C c 5 ∗ SA C c 6 ∗ SA C c 7 ∗ WT (F := F) c 5 0 ∗ WT (F := F) c 5 1 ∗ WT (F := F) c 5 2 ∗ WT (F := F) c 5 3 ∗ WT (F := F) c 5 4 ∗ WT (F := F) c 5 5 ∗ WT (F := F) c 5 6)
      ⊢ iprop(((Ow c []
            ∗ SC (F := F) c 4 1 ∗ SC (F := F) c 4 2 ∗ SC (F := F) c 4 3 ∗ SC (F := F) c 4 4 ∗ SC (F := F) c 4 5 ∗ SC (F := F) c 4 6 ∗ SC (F := F) c 4 7 ∗ DP C c 5 0 ∗ DP C c 5 1 ∗ DP C c 5 2 ∗ DP C c 5 3 ∗ DP C c 5 4 ∗ DP C c 5 5 ∗ DP C c 5 6)
          -∗ WP c κ Q)
        -∗ WP c (S6 c v2 v1280 κ) Q) := by
  iintro ⟨#HR, #Hlev, HO, A1, A2, A3, A4, A5, A6, A7, B0, B1, B2, B3, B4, B5, B6⟩ Hk
  unfold WP S6 st6
  sl_exec
  iapply (wp_sendA C K c ⟨k0_dev25 c, k0_dev25_lt c⟩ 1 (Fin.ext (k0_dev25_eq c)) _ (k0_off6_eq c) rfl (k0_off1_eq c)) $$ [HO A1]
  · isplitr; · iexact HR
    isplitl [HO]; · iexact HO
    iexact A1
  iintro ⟨A1, HO⟩
  sl_exec
  iapply (wp_sendA C K c ⟨k0_dev26 c, k0_dev26_lt c⟩ 2 (Fin.ext (k0_dev26_eq c)) _ (k0_off6_eq c) rfl (k0_off1_eq c)) $$ [HO A2]
  · isplitr; · iexact HR
    isplitl [HO]; · iexact HO
    iexact A2
  iintro ⟨A2, HO⟩
  sl_exec
  iapply (wp_sendA C K c ⟨k0_dev27 c, k0_dev27_lt c⟩ 3 (Fin.ext (k0_dev27_eq c)) _ (k0_off6_eq c) rfl (k0_off1_eq c)) $$ [HO A3]
  · isplitr; · iexact HR
    isplitl [HO]; · iexact HO
    iexact A3
  iintro ⟨A3, HO⟩
  sl_exec
  iapply (wp_sendA C K c ⟨k0_dev28 c, k0_dev28_lt c⟩ 4 (Fin.ext (k0_dev28_eq c)) _ (k0_off6_eq c) rfl (k0_off1_eq c)) $$ [HO A4]
  · isplitr; · iexact HR
    isplitl [HO]; · iexact HO
    iexact A4
  iintro ⟨A4, HO⟩
  sl_exec
  iapply (wp_sendA C K c ⟨k0_dev29 c, k0_dev29_lt c⟩ 5 (Fin.ext (k0_dev29_eq c)) _ (k0_off6_eq c) rfl (k0_off1_eq c)) $$ [HO A5]
  · isplitr; · iexact HR
    isplitl [HO]; · iexact HO
    iexact A5
  iintro ⟨A5, HO⟩
  sl_exec
  iapply (wp_sendA C K c ⟨k0_dev30 c, k0_dev30_lt c⟩ 6 (Fin.ext (k0_dev30_eq c)) _ (k0_off6_eq c) rfl (k0_off1_eq c)) $$ [HO A6]
  · isplitr; · iexact HR
    isplitl [HO]; · iexact HO
    iexact A6
  iintro ⟨A6, HO⟩
  sl_exec
  iapply (wp_sendA C K c ⟨k0_dev31 c, k0_dev31_lt c⟩ 7 (Fin.ext (k0_dev31_eq c)) _ (k0_off6_eq c) rfl (k0_off1_eq c)) $$ [HO A7]
  · isplitr; · iexact HR
    isplitl [HO]; · iexact HO
    iexact A7
  iintro ⟨A7, HO⟩
  sl_exec
  iapply (wp_dmaR C K c 5 0 (sem10 0 rfl) rfl _ (above_nil _)) $$ [HO B0]
  · isplitr; · iexact HR
    isplitr; · iexact Hlev
    isplitl [HO]; · iexact HO
    iexact B0
  iintro ⟨HO, B0, C0⟩
  sl_exec
  iapply (wp_dmaR C K c 5 1 (sem10 1 rfl) rfl _ (above_nil _)) $$ [HO B1]
  · isplitr; · iexact HR
    isplitr; · iexact Hlev
    isplitl [HO]; · iexact HO
    iexact B1
  iintro ⟨HO, B1, C1⟩
  sl_exec
  iapply (wp_dmaR C K c 5 2 (sem10 2 rfl) rfl _ (above_nil _)) $$ [HO B2]
  · isplitr; · iexact HR
    isplitr; · iexact Hlev
    isplitl [HO]; · iexact HO
    iexact B2
  iintro ⟨HO, B2, C2⟩
  sl_exec
  iapply (wp_dmaR C K c 5 3 (sem10 3 rfl) rfl _ (above_nil _)) $$ [HO B3]
  · isplitr; · iexact HR
    isplitr; · iexact Hlev
    isplitl [HO]; · iexact HO
    iexact B3
  iintro ⟨HO, B3, C3⟩
  sl_exec
  iapply (wp_dmaR C K c 5 4 (sem10 4 rfl) rfl _ (above_nil _)) $$ [HO B4]
  · isplitr; · iexact HR
    isplitr; · iexact Hlev
    isplitl [HO]; · iexact HO
    iexact B4
  iintro ⟨HO, B4, C4⟩
  sl_exec
  iapply (wp_dmaR C K c 5 5 (sem10 5 rfl) rfl _ (above_nil _)) $$ [HO B5]
  · isplitr; · iexact HR
    isplitr; · iexact Hlev
    isplitl [HO]; · iexact HO
    iexact B5
  iintro ⟨HO, B5, C5⟩
  sl_exec
  iapply (wp_dmaR C K c 5 6 (sem10 6 rfl) rfl _ (above_nil _)) $$ [HO B6]
  · isplitr; · iexact HR
    isplitr; · iexact Hlev
    isplitl [HO]; · iexact HO
    iexact B6
  iintro ⟨HO, B6, C6⟩
  sl_exec
  iapply Hk
  isplitl [HO]; · iexact HO
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [B0 C0]
  · unfold DP; isplitl [B0]; · iexact B0
    iexact C0
  isplitl [B1 C1]
  · unfold DP; isplitl [B1]; · iexact B1
    iexact C1
  isplitl [B2 C2]
  · unfold DP; isplitl [B2]; · iexact B2
    iexact C2
  isplitl [B3 C3]
  · unfold DP; isplitl [B3]; · iexact B3
    iexact C3
  isplitl [B4 C4]
  · unfold DP; isplitl [B4]; · iexact B4
    iexact C4
  isplitl [B5 C5]
  · unfold DP; isplitl [B5]; · iexact B5
    iexact C5
  unfold DP; isplitl [B6]; · iexact B6
  iexact C6

end Cert.Run

end
-- ==== Proof.Spec7.lean ====
/-
# The end of the transfers
-/
module

public import proofs.«01_k».proof.Proof.Spec6

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

variable (C : Cont F) (K : Dev nD × CK → ℕ)

set_option maxHeartbeats 2000000 in
theorem spec7 (c : Dev nD) {R : Type} {κ : Pg (F := F) R} {Q : R → sProp 𝕄} :
    iprop(records C K ∗ levAts L lv ∗ Ow c []
        ∗ WT (F := F) c 5 7 ∗ WT (F := F) c 0 0 ∗ WT (F := F) c 2 0 ∗ WT (F := F) c 0 1 ∗ WT (F := F) c 2 1 ∗ WT (F := F) c 0 2 ∗ WT (F := F) c 2 2 ∗ WT (F := F) c 0 3 ∗ WT (F := F) c 2 3 ∗ WT (F := F) c 0 4 ∗ WT (F := F) c 2 4 ∗ WT (F := F) c 0 5 ∗ WT (F := F) c 2 5 ∗ WT (F := F) c 0 6 ∗ WT (F := F) c 2 6 ∗ WT (F := F) c 0 7 ∗ WT (F := F) c 2 7 ∗ WT (F := F) c 4 0 ∗ WT (F := F) c 4 1 ∗ WT (F := F) c 4 2 ∗ WT (F := F) c 4 3 ∗ WT (F := F) c 4 4 ∗ WT (F := F) c 4 5)
      ⊢ iprop(((Ow c []
            ∗ DP C c 5 7 ∗ DP C c 0 0 ∗ DP C c 2 0 ∗ DP C c 0 1 ∗ DP C c 2 1 ∗ DP C c 0 2 ∗ DP C c 2 2 ∗ DP C c 0 3 ∗ DP C c 2 3 ∗ DP C c 0 4 ∗ DP C c 2 4 ∗ DP C c 0 5 ∗ DP C c 2 5 ∗ DP C c 0 6 ∗ DP C c 2 6 ∗ DP C c 0 7 ∗ DP C c 2 7 ∗ DP C c 4 0 ∗ DP C c 4 1 ∗ DP C c 4 2 ∗ DP C c 4 3 ∗ DP C c 4 4 ∗ DP C c 4 5)
          -∗ WP c κ Q)
        -∗ WP c (S7 c κ) Q) := by
  iintro ⟨#HR, #Hlev, HO, A57, A00, A20, A01, A21, A02, A22, A03, A23, A04, A24, A05, A25, A06, A26, A07, A27, A40, A41, A42, A43, A44, A45⟩ Hk
  unfold WP S7 st7
  sl_exec
  iapply (wp_dmaR C K c 5 7 (sem10 7 rfl) rfl _ (above_nil _)) $$ [HO A57]
  · isplitr; · iexact HR
    isplitr; · iexact Hlev
    isplitl [HO]; · iexact HO
    iexact A57
  iintro ⟨HO, A57, B57⟩
  sl_exec
  iapply (wp_dmaO C K c 0 0 (sem5 0 rfl) rfl _ (above_nil _)) $$ [HO A00]
  · isplitr; · iexact HR
    isplitr; · iexact Hlev
    isplitl [HO]; · iexact HO
    iexact A00
  iintro ⟨HO, A00, B00⟩
  sl_exec
  iapply (wp_dmaS C K c 2 0 (sem7 0 rfl) rfl _ (above_nil _)) $$ [HO A20]
  · isplitr; · iexact HR
    isplitr; · iexact Hlev
    isplitl [HO]; · iexact HO
    iexact A20
  iintro ⟨HO, A20, B20⟩
  sl_exec
  iapply (wp_dmaO C K c 0 1 (sem5 1 rfl) rfl _ (above_nil _)) $$ [HO A01]
  · isplitr; · iexact HR
    isplitr; · iexact Hlev
    isplitl [HO]; · iexact HO
    iexact A01
  iintro ⟨HO, A01, B01⟩
  sl_exec
  iapply (wp_dmaS C K c 2 1 (sem7 1 rfl) rfl _ (above_nil _)) $$ [HO A21]
  · isplitr; · iexact HR
    isplitr; · iexact Hlev
    isplitl [HO]; · iexact HO
    iexact A21
  iintro ⟨HO, A21, B21⟩
  sl_exec
  iapply (wp_dmaO C K c 0 2 (sem5 2 rfl) rfl _ (above_nil _)) $$ [HO A02]
  · isplitr; · iexact HR
    isplitr; · iexact Hlev
    isplitl [HO]; · iexact HO
    iexact A02
  iintro ⟨HO, A02, B02⟩
  sl_exec
  iapply (wp_dmaS C K c 2 2 (sem7 2 rfl) rfl _ (above_nil _)) $$ [HO A22]
  · isplitr; · iexact HR
    isplitr; · iexact Hlev
    isplitl [HO]; · iexact HO
    iexact A22
  iintro ⟨HO, A22, B22⟩
  sl_exec
  iapply (wp_dmaO C K c 0 3 (sem5 3 rfl) rfl _ (above_nil _)) $$ [HO A03]
  · isplitr; · iexact HR
    isplitr; · iexact Hlev
    isplitl [HO]; · iexact HO
    iexact A03
  iintro ⟨HO, A03, B03⟩
  sl_exec
  iapply (wp_dmaS C K c 2 3 (sem7 3 rfl) rfl _ (above_nil _)) $$ [HO A23]
  · isplitr; · iexact HR
    isplitr; · iexact Hlev
    isplitl [HO]; · iexact HO
    iexact A23
  iintro ⟨HO, A23, B23⟩
  sl_exec
  iapply (wp_dmaO C K c 0 4 (sem5 4 rfl) rfl _ (above_nil _)) $$ [HO A04]
  · isplitr; · iexact HR
    isplitr; · iexact Hlev
    isplitl [HO]; · iexact HO
    iexact A04
  iintro ⟨HO, A04, B04⟩
  sl_exec
  iapply (wp_dmaS C K c 2 4 (sem7 4 rfl) rfl _ (above_nil _)) $$ [HO A24]
  · isplitr; · iexact HR
    isplitr; · iexact Hlev
    isplitl [HO]; · iexact HO
    iexact A24
  iintro ⟨HO, A24, B24⟩
  sl_exec
  iapply (wp_dmaO C K c 0 5 (sem5 5 rfl) rfl _ (above_nil _)) $$ [HO A05]
  · isplitr; · iexact HR
    isplitr; · iexact Hlev
    isplitl [HO]; · iexact HO
    iexact A05
  iintro ⟨HO, A05, B05⟩
  sl_exec
  iapply (wp_dmaS C K c 2 5 (sem7 5 rfl) rfl _ (above_nil _)) $$ [HO A25]
  · isplitr; · iexact HR
    isplitr; · iexact Hlev
    isplitl [HO]; · iexact HO
    iexact A25
  iintro ⟨HO, A25, B25⟩
  sl_exec
  iapply (wp_dmaO C K c 0 6 (sem5 6 rfl) rfl _ (above_nil _)) $$ [HO A06]
  · isplitr; · iexact HR
    isplitr; · iexact Hlev
    isplitl [HO]; · iexact HO
    iexact A06
  iintro ⟨HO, A06, B06⟩
  sl_exec
  iapply (wp_dmaS C K c 2 6 (sem7 6 rfl) rfl _ (above_nil _)) $$ [HO A26]
  · isplitr; · iexact HR
    isplitr; · iexact Hlev
    isplitl [HO]; · iexact HO
    iexact A26
  iintro ⟨HO, A26, B26⟩
  sl_exec
  iapply (wp_dmaO C K c 0 7 (sem5 7 rfl) rfl _ (above_nil _)) $$ [HO A07]
  · isplitr; · iexact HR
    isplitr; · iexact Hlev
    isplitl [HO]; · iexact HO
    iexact A07
  iintro ⟨HO, A07, B07⟩
  sl_exec
  iapply (wp_dmaS C K c 2 7 (sem7 7 rfl) rfl _ (above_nil _)) $$ [HO A27]
  · isplitr; · iexact HR
    isplitr; · iexact Hlev
    isplitl [HO]; · iexact HO
    iexact A27
  iintro ⟨HO, A27, B27⟩
  sl_exec
  iapply (wp_dmaR C K c 4 0 (sem9 0 rfl) rfl _ (above_nil _)) $$ [HO A40]
  · isplitr; · iexact HR
    isplitr; · iexact Hlev
    isplitl [HO]; · iexact HO
    iexact A40
  iintro ⟨HO, A40, B40⟩
  sl_exec
  iapply (wp_dmaR C K c 4 1 (sem9 1 rfl) rfl _ (above_nil _)) $$ [HO A41]
  · isplitr; · iexact HR
    isplitr; · iexact Hlev
    isplitl [HO]; · iexact HO
    iexact A41
  iintro ⟨HO, A41, B41⟩
  sl_exec
  iapply (wp_dmaR C K c 4 2 (sem9 2 rfl) rfl _ (above_nil _)) $$ [HO A42]
  · isplitr; · iexact HR
    isplitr; · iexact Hlev
    isplitl [HO]; · iexact HO
    iexact A42
  iintro ⟨HO, A42, B42⟩
  sl_exec
  iapply (wp_dmaR C K c 4 3 (sem9 3 rfl) rfl _ (above_nil _)) $$ [HO A43]
  · isplitr; · iexact HR
    isplitr; · iexact Hlev
    isplitl [HO]; · iexact HO
    iexact A43
  iintro ⟨HO, A43, B43⟩
  sl_exec
  iapply (wp_dmaR C K c 4 4 (sem9 4 rfl) rfl _ (above_nil _)) $$ [HO A44]
  · isplitr; · iexact HR
    isplitr; · iexact Hlev
    isplitl [HO]; · iexact HO
    iexact A44
  iintro ⟨HO, A44, B44⟩
  iapply (wp_dmaR C K c 4 5 (sem9 5 rfl) rfl _ (above_nil _)) $$ [HO A45]
  · isplitr; · iexact HR
    isplitr; · iexact Hlev
    isplitl [HO]; · iexact HO
    iexact A45
  iintro ⟨HO, A45, B45⟩
  iapply Hk
  isplitl [HO]; · iexact HO
  isplitl [A57 B57]
  · unfold DP; isplitl [A57]; · iexact A57
    iexact B57
  isplitl [A00 B00]
  · unfold DP; isplitl [A00]; · iexact A00
    iexact B00
  isplitl [A20 B20]
  · unfold DP; isplitl [A20]; · iexact A20
    iexact B20
  isplitl [A01 B01]
  · unfold DP; isplitl [A01]; · iexact A01
    iexact B01
  isplitl [A21 B21]
  · unfold DP; isplitl [A21]; · iexact A21
    iexact B21
  isplitl [A02 B02]
  · unfold DP; isplitl [A02]; · iexact A02
    iexact B02
  isplitl [A22 B22]
  · unfold DP; isplitl [A22]; · iexact A22
    iexact B22
  isplitl [A03 B03]
  · unfold DP; isplitl [A03]; · iexact A03
    iexact B03
  isplitl [A23 B23]
  · unfold DP; isplitl [A23]; · iexact A23
    iexact B23
  isplitl [A04 B04]
  · unfold DP; isplitl [A04]; · iexact A04
    iexact B04
  isplitl [A24 B24]
  · unfold DP; isplitl [A24]; · iexact A24
    iexact B24
  isplitl [A05 B05]
  · unfold DP; isplitl [A05]; · iexact A05
    iexact B05
  isplitl [A25 B25]
  · unfold DP; isplitl [A25]; · iexact A25
    iexact B25
  isplitl [A06 B06]
  · unfold DP; isplitl [A06]; · iexact A06
    iexact B06
  isplitl [A26 B26]
  · unfold DP; isplitl [A26]; · iexact A26
    iexact B26
  isplitl [A07 B07]
  · unfold DP; isplitl [A07]; · iexact A07
    iexact B07
  isplitl [A27 B27]
  · unfold DP; isplitl [A27]; · iexact A27
    iexact B27
  isplitl [A40 B40]
  · unfold DP; isplitl [A40]; · iexact A40
    iexact B40
  isplitl [A41 B41]
  · unfold DP; isplitl [A41]; · iexact A41
    iexact B41
  isplitl [A42 B42]
  · unfold DP; isplitl [A42]; · iexact A42
    iexact B42
  isplitl [A43 B43]
  · unfold DP; isplitl [A43]; · iexact A43
    iexact B43
  isplitl [A44 B44]
  · unfold DP; isplitl [A44]; · iexact A44
    iexact B44
  unfold DP; isplitl [A45]; · iexact A45
  iexact B45

end Cert.Run

end
-- ==== Proof.Body.lean ====
/-
# A device's run of the kernel
-/
module

public import proofs.«01_k».proof.Proof.Spec2
public import proofs.«01_k».proof.Proof.Spec3
public import proofs.«01_k».proof.Proof.Spec5
public import proofs.«01_k».proof.Proof.Spec7

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

variable (C : Cont F) (K : Dev nD × CK → ℕ)

theorem part44_eq : k0_part44 (F := F) xM (Memref.isWhole_whole _) wqM (Memref.isWhole_whole _) kM (Memref.isWhole_whole _) vM (Memref.isWhole_whole _)
    woM (Memref.isWhole_whole _) outM (Memref.isWhole_whole _) poM (Memref.isWhole_whole _) psM (Memref.isWhole_whole _)
    cbM (Memref.isWhole_whole _) csM (Memref.isWhole_whole _) resM (Memref.isWhole_whole _) cc0_scratch5 cc0_scratch6 cc0_scratch7
    cc0_scratch8 cc0_scratch9 cc0_scratch10
    = S1 (fun d0 v2 v36 v38 v40 v45 v50 v55 v56 v57 => S2 d0 v2 v36 v38 v40 v45 v50 v55 v56 v57 fun v862 =>
        S3 d0 v2 v862 (S4 d0 v2 (S5 d0 v2 fun v1280 => S6 d0 v2 v1280 (S7 d0 (Prog.ret d0))))) := by
  rw [st1.eq]
  refine congrArg S1 ?_
  funext d0 v2 v36 v38 v40 v45 v50 v55 v56 v57
  rw [st2.eq]
  refine congrArg (S2 d0 v2 v36 v38 v40 v45 v50 v55 v56 v57) ?_
  funext v862
  rw [st3.eq, st4.eq, st5.eq]
  refine congrArg (S3 d0 v2 v862) (congrArg (S4 d0 v2) (congrArg (S5 d0 v2) ?_))
  funext v1280
  rw [st6.eq, st7.eq]
  rfl

/-- What the cells of one kind brought, apart from their positions. -/
theorem dp_split (c : Dev nD) (j : Fin 6) :
    (bigSep Finset.univ fun s : Fin 8 => DP C c j s) ⊢ iprop((bigSep Finset.univ fun s : Fin 8 => DN (F := F) c j s) ∗ bigSep Finset.univ fun s : Fin 8 => dpay C c j s) :=
  BIBase.Entails.of_eq (bigSep_sep' _ _ _)
theorem wt_join (c : Dev nD) (j : Fin 6) (s : Fin 8) : iprop(SC (F := F) c j s ∗ AT (F := F) c j s) ⊢ WT (F := F) c j s := BIBase.Entails.rfl
theorem rw_join (c : Dev nD) (s : Fin 8) : iprop(WT (F := F) c 1 s ∗ WT (F := F) c 3 s) ⊢ RW (F := F) c s := BIBase.Entails.rfl
theorem dp_po (c : Dev nD) : (bigSep Finset.univ fun s : Fin 8 => dpay C c 0 s) ⊢ own c poM fullShare (C.po c) := po_join c _
theorem dp_ps (c : Dev nD) : (bigSep Finset.univ fun s : Fin 8 => dpay C c 2 s) ⊢ own c psM fullShare (C.ps c) := ps_join c _
theorem dp_res (c : Dev nD) : (bigSep Finset.univ fun s : Fin 8 => dpay C c 4 s) ⊢ own c resM fullShare (C.rs c) := BIBase.Entails.of_eq (res_leaves c _).symm
theorem dp_out (c : Dev nD) : (bigSep Finset.univ fun s : Fin 8 => dpay C c 5 s) ⊢ own c outM fullShare (allR C.rs) := out_join c _

/-- The tokens for the seven signals. -/
def BT (c : Dev nD) : sProp 𝕄 :=
  iprop(dutyTok ER (bcell (rot c 1)) 0 c ∗ dutyTok ER (bcell (rot c 2)) 0 c ∗ dutyTok ER (bcell (rot c 3)) 0 c ∗ dutyTok ER (bcell (rot c 4)) 0 c ∗ dutyTok ER (bcell (rot c 5)) 0 c ∗ dutyTok ER (bcell (rot c 6)) 0 c ∗ dutyTok ER (bcell (rot c 7)) 0 c)
/-- What a device starts with, apart from its buffers. -/
def start (c : Dev nD) : sProp 𝕄 :=
  iprop(cred (tallyAt (bcell c) () 7) ∗ atPos ER (bcell c) 0 ∅ 0 ∗ BT (F := F) c ∗ (bigSep Finset.univ fun r : Fin 8 => TK (F := F) c r)
    ∗ (bigSep Finset.univ fun s : Fin 8 => AT (F := F) c 0 s) ∗ (bigSep Finset.univ fun s : Fin 8 => WT (F := F) c 1 s)
    ∗ (bigSep Finset.univ fun s : Fin 8 => AT (F := F) c 2 s) ∗ (bigSep Finset.univ fun s : Fin 8 => WT (F := F) c 3 s)
    ∗ (bigSep Finset.univ fun s : Fin 8 => AT (F := F) c 4 s) ∗ (bigSep Finset.univ fun s : Fin 8 => WT (F := F) c 5 s))
/-- The cells' positions in the end. -/
def done (c : Dev nD) : sProp 𝕄 :=
  iprop(atPos ER (bcell c) 1 ∅ 0 ∗ (bigSep Finset.univ fun s : Fin 8 => DN (F := F) c 0 s) ∗ (bigSep Finset.univ fun s : Fin 8 => DN (F := F) c 1 s) ∗ (bigSep Finset.univ fun s : Fin 8 => DN (F := F) c 2 s) ∗ (bigSep Finset.univ fun s : Fin 8 => DN (F := F) c 3 s) ∗ (bigSep Finset.univ fun s : Fin 8 => DN (F := F) c 4 s) ∗ (bigSep Finset.univ fun s : Fin 8 => DN (F := F) c 5 s))
/-- The operands' buffers. -/
def ins (c : Dev nD) (X : FVec F S1x1024x1024 .f32) (wq : FVec F S1024x1024 .f32) (k v : FVec F S1x1024x8x128 .f32) (wo : FVec F S1024x1024 .f32) : sProp 𝕄 :=
  iprop(pts c xM X ∗ pts c wqM wq ∗ pts c kM k ∗ pts c vM v ∗ pts c woM wo)
/-- The scratch buffers, holding anything. -/
def scr (c : Dev nD) : sProp 𝕄 :=
  iprop((∃ f, pts (F := F) c poM f) ∗ (∃ f, pts (F := F) c psM f) ∗ (∃ f, pts (F := F) c cbM f) ∗ (∃ f, pts (F := F) c csM f) ∗ ∃ f, pts (F := F) c resM f)

set_option maxHeartbeats 1000000 in
theorem run_body (c : Dev nD) (X : FVec F S1x1024x1024 .f32) (wq : FVec F S1024x1024 .f32) (k v : FVec F S1x1024x8x128 .f32) (wo : FVec F S1024x1024 .f32)
    (f5 : FVec F S1x1024x1024 .f32)
    (hpo : C.po c = partO (k0_pay1 X wq) (k0_pay2 k) (k0_pay3 v)) (hps : C.ps c = partS (k0_pay1 X wq) (k0_pay2 k))
    (hrs : C.rs c = comb (fun j => sM (rowsS (C.ps j) c)) (fun j => sL (rowsS (C.ps j) c)) (fun j => rowsO (C.po j) c) wo)
    {Q : PUnit → sProp 𝕄} :
    iprop(records C K ∗ levAts L lv ∗ Ow c (obB c [1, 2, 3, 4, 5, 6, 7]) ∗ start (F := F) c ∗ ins c X wq k v wo ∗ pts c outM f5 ∗ scr (F := F) c)
      ⊢ iprop(((Ow c [] ∗ done (F := F) c ∗ ins c X wq k v wo ∗ pts c outM (allR C.rs) ∗ scr (F := F) c) -∗ Q ⟨⟩)
        -∗ wp frame (wpE (defs₀ (F := F)) 𝒱₀ (c : Thread nD τ) none) Set.univ (cc0_body (F := F) xM (Memref.isWhole_whole _) wqM (Memref.isWhole_whole _) kM (Memref.isWhole_whole _) vM (Memref.isWhole_whole _)
    woM (Memref.isWhole_whole _) outM (Memref.isWhole_whole _) poM (Memref.isWhole_whole _) psM (Memref.isWhole_whole _)
    cbM (Memref.isWhole_whole _) csM (Memref.isWhole_whole _) resM (Memref.isWhole_whole _) cc0_scratch5 cc0_scratch6 cc0_scratch7
    cc0_scratch8 cc0_scratch9 cc0_scratch10) Q) := by
  rw [cc0_body_eq_skeleton]
  unfold cc0_body_skel
  rw [part44_eq, wp_bind]
  unfold start ins scr BT
  iintro ⟨#HR, #Hlev, HO, ⟨Hc, Ha, ⟨T1, T2, T3, T4, T5, T6, T7⟩, HT, HA0, HW1, HA2, HW3, HA4, HW5⟩, ⟨HX, Hq, Hkk, Hv, Hw⟩, H5, ⟨%f6, H6⟩, ⟨%f7, H7⟩, ⟨%f8, H8⟩, ⟨%f9, H9⟩, ⟨%f10, H10⟩⟩ Hk
  ihave Hs := (slots_of c f8 f9 f5) $$ [H8 H9 H5]
  · isplitl [H8]; · iapply (pts_own c cc0_scratch2 f8 f8 rfl); iexact H8
    isplitl [H9]; · iapply (pts_own c cc0_scratch3 f9 f9 rfl); iexact H9
    iapply (pts_own c cc0_stg5_0 f5 f5 rfl); iexact H5
  ihave Hs := (BIBase.Entails.of_eq (sep8 _)) $$ Hs
  icases Hs with ⟨Z0, Z1, Z2, Z3, Z4, Z5, Z6, Z7⟩
  iapply (spec1 C K c X wq k v) $$ [HO Hc Ha T1 T2 T3 T4 T5 T6 T7 Z0 Z1 Z2 Z3 Z4 Z5 Z6 Z7 HX Hq Hkk Hv]
  · isplitr; · iexact HR
    isplitr; · iexact Hlev
    isplitl [HO]; · iexact HO
    isplitl [Hc]; · iexact Hc
    isplitl [Ha]; · iexact Ha
    isplitl [T1 T2 T3 T4 T5 T6 T7 Z1 Z2 Z3 Z4 Z5 Z6 Z7]
    · unfold SG
      isplitl [T1 Z1]
      · isplitl [T1]; · iexact T1
        iexact Z1
      isplitl [T2 Z2]
      · isplitl [T2]; · iexact T2
        iexact Z2
      isplitl [T3 Z3]
      · isplitl [T3]; · iexact T3
        iexact Z3
      isplitl [T4 Z4]
      · isplitl [T4]; · iexact T4
        iexact Z4
      isplitl [T5 Z5]
      · isplitl [T5]; · iexact T5
        iexact Z5
      isplitl [T6 Z6]
      · isplitl [T6]; · iexact T6
        iexact Z6
      isplitl [T7]; · iexact T7
      iexact Z7
    isplitl [Z0]; · iapply (BIBase.Entails.of_eq (congrArg (slots (F := F) c) (Fin.ext (rot0 c).symm))); iexact Z0
    isplitl [HX]; · iexact HX
    isplitl [Hq]; · iexact Hq
    isplitl [Hkk]; · iexact Hkk
    iexact Hv
  iintro %v2 ⟨HO, Ha, Hs, HX, Hq, Hkk, Hv⟩
  iapply (spec2 C K c v2 (k0_pay1 X wq) (k0_pay2 k) (k0_pay3 v) f6 f7 hpo hps) $$ [HO H6 H7 Hs HT]
  · isplitr; · iexact HR
    isplitl [HO]; · iexact HO
    isplitl [H6]; · iexact H6
    isplitl [H7]; · iexact H7
    isplitl [Hs]; · iexact Hs
    iexact HT
  iintro %w ⟨HO, C00, ⟨S0, P0⟩, ⟨O1, S1, P1⟩, ⟨O2, S2, P2⟩, ⟨O3, S3, P3⟩, ⟨O4, S4, P4⟩, ⟨O5, S5, P5⟩, ⟨O6, S6, P6⟩, ⟨O7, S7, P7⟩⟩
  iapply (spec3 C K c v2 w) $$ [HO S0 O1 S1 O2 S2 O3 S3 O4 S4 O5 S5 O6 S6 O7]
  · isplitr; · iexact HR
    isplitl [HO]; · iexact HO
    isplitl [S0]; · iexact S0
    isplitl [O1]; · iexact O1
    isplitl [S1]; · iexact S1
    isplitl [O2]; · iexact O2
    isplitl [S2]; · iexact S2
    isplitl [O3]; · iexact O3
    isplitl [S3]; · iexact S3
    isplitl [O4]; · iexact O4
    isplitl [S4]; · iexact S4
    isplitl [O5]; · iexact O5
    isplitl [S5]; · iexact S5
    isplitl [O6]; · iexact O6
    isplitl [S6]; · iexact S6
    iexact O7
  iintro ⟨HO, C20, C01, C21, C02, C22, C03, C23, C04, C24, C05, C25, C06, C26, C07⟩
  ihave HW1 := (BIBase.Entails.of_eq (sep8 _)) $$ HW1
  icases HW1 with ⟨A10, A11, A12, A13, A14, A15, A16, A17⟩
  ihave HW3 := (BIBase.Entails.of_eq (sep8 _)) $$ HW3
  icases HW3 with ⟨A30, A31, A32, A33, A34, A35, A36, A37⟩
  ihave W0 := (rw_join c 0) $$ [A10 A30]
  · isplitl [A10]; · iexact A10
    iexact A30
  ihave W1 := (rw_join c 1) $$ [A11 A31]
  · isplitl [A11]; · iexact A11
    iexact A31
  ihave W2 := (rw_join c 2) $$ [A12 A32]
  · isplitl [A12]; · iexact A12
    iexact A32
  ihave W3 := (rw_join c 3) $$ [A13 A33]
  · isplitl [A13]; · iexact A13
    iexact A33
  ihave W4 := (rw_join c 4) $$ [A14 A34]
  · isplitl [A14]; · iexact A14
    iexact A34
  ihave W5 := (rw_join c 5) $$ [A15 A35]
  · isplitl [A15]; · iexact A15
    iexact A35
  ihave W6 := (rw_join c 6) $$ [A16 A36]
  · isplitl [A16]; · iexact A16
    iexact A36
  ihave W7 := (rw_join c 7) $$ [A17 A37]
  · isplitl [A17]; · iexact A17
    iexact A37
  iapply (spec4 C K c v2) $$ [HO S7 W0 W1 W2 W3 W4 W5]
  · isplitr; · iexact HR
    isplitr; · iexact Hlev
    isplitl [HO]; · iexact HO
    isplitl [S7]; · iexact S7
    isplitl [W0]; · iexact W0
    isplitl [W1]; · iexact W1
    isplitl [W2]; · iexact W2
    isplitl [W3]; · iexact W3
    isplitl [W4]; · iexact W4
    iexact W5
  iintro ⟨HO, C27, W0, W1, W2, W3, W4, W5⟩
  iapply (spec5 C K c v2 wo f10 hrs) $$ [HO W0 P0 W1 P1 W2 P2 W3 P3 W4 P4 W5 P5 W6 P6 W7 P7 Hw H10]
  · isplitr; · iexact HR
    isplitr; · iexact Hlev
    isplitl [HO]; · iexact HO
    isplitl [W6 W7]
    · isplitl [W6]; · iexact W6
      iexact W7
    isplitl [W0 W1 W2 W3 W4 W5]
    · isplitl [W0]; · iexact W0
      isplitl [W1]; · iexact W1
      isplitl [W2]; · iexact W2
      isplitl [W3]; · iexact W3
      isplitl [W4]; · iexact W4
      iexact W5
    isplitl [P0 P1 P2 P3 P4 P5 P6 P7]
    · isplitl [P0]; · iexact P0
      isplitl [P1]; · iexact P1
      isplitl [P2]; · iexact P2
      isplitl [P3]; · iexact P3
      isplitl [P4]; · iexact P4
      isplitl [P5]; · iexact P5
      isplitl [P6]; · iexact P6
      iexact P7
    isplitl [Hw]; · iexact Hw
    iexact H10
  iintro %w5 ⟨HO, C40, ⟨P1, P2, P3, P4, P5, P6, P7⟩, HD1, HD3, ⟨%f8', H8⟩, ⟨%f9', H9⟩, Hw⟩
  ihave HW5 := (BIBase.Entails.of_eq (sep8 _)) $$ HW5
  icases HW5 with ⟨A50, A51, A52, A53, A54, A55, A56, A57⟩
  iapply (spec6 C K c v2 w5) $$ [HO P1 P2 P3 P4 P5 P6 P7 A50 A51 A52 A53 A54 A55 A56]
  · isplitr; · iexact HR
    isplitr; · iexact Hlev
    isplitl [HO]; · iexact HO
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [A50]; · iexact A50
    isplitl [A51]; · iexact A51
    isplitl [A52]; · iexact A52
    isplitl [A53]; · iexact A53
    isplitl [A54]; · iexact A54
    isplitl [A55]; · iexact A55
    iexact A56
  iintro ⟨HO, C41, C42, C43, C44, C45, C46, C47, B50, B51, B52, B53, B54, B55, B56⟩
  ihave HA0 := (BIBase.Entails.of_eq (sep8 _)) $$ HA0
  icases HA0 with ⟨A00, A01, A02, A03, A04, A05, A06, A07⟩
  ihave A00 := (wt_join c 0 0) $$ [C00 A00]
  · isplitl [C00]; · iexact C00
    iexact A00
  ihave A01 := (wt_join c 0 1) $$ [C01 A01]
  · isplitl [C01]; · iexact C01
    iexact A01
  ihave A02 := (wt_join c 0 2) $$ [C02 A02]
  · isplitl [C02]; · iexact C02
    iexact A02
  ihave A03 := (wt_join c 0 3) $$ [C03 A03]
  · isplitl [C03]; · iexact C03
    iexact A03
  ihave A04 := (wt_join c 0 4) $$ [C04 A04]
  · isplitl [C04]; · iexact C04
    iexact A04
  ihave A05 := (wt_join c 0 5) $$ [C05 A05]
  · isplitl [C05]; · iexact C05
    iexact A05
  ihave A06 := (wt_join c 0 6) $$ [C06 A06]
  · isplitl [C06]; · iexact C06
    iexact A06
  ihave A07 := (wt_join c 0 7) $$ [C07 A07]
  · isplitl [C07]; · iexact C07
    iexact A07
  ihave HA2 := (BIBase.Entails.of_eq (sep8 _)) $$ HA2
  icases HA2 with ⟨A20, A21, A22, A23, A24, A25, A26, A27⟩
  ihave A20 := (wt_join c 2 0) $$ [C20 A20]
  · isplitl [C20]; · iexact C20
    iexact A20
  ihave A21 := (wt_join c 2 1) $$ [C21 A21]
  · isplitl [C21]; · iexact C21
    iexact A21
  ihave A22 := (wt_join c 2 2) $$ [C22 A22]
  · isplitl [C22]; · iexact C22
    iexact A22
  ihave A23 := (wt_join c 2 3) $$ [C23 A23]
  · isplitl [C23]; · iexact C23
    iexact A23
  ihave A24 := (wt_join c 2 4) $$ [C24 A24]
  · isplitl [C24]; · iexact C24
    iexact A24
  ihave A25 := (wt_join c 2 5) $$ [C25 A25]
  · isplitl [C25]; · iexact C25
    iexact A25
  ihave A26 := (wt_join c 2 6) $$ [C26 A26]
  · isplitl [C26]; · iexact C26
    iexact A26
  ihave A27 := (wt_join c 2 7) $$ [C27 A27]
  · isplitl [C27]; · iexact C27
    iexact A27
  ihave HA4 := (BIBase.Entails.of_eq (sep8 _)) $$ HA4
  icases HA4 with ⟨A40, A41, A42, A43, A44, A45, A46, A47⟩
  ihave A40 := (wt_join c 4 0) $$ [C40 A40]
  · isplitl [C40]; · iexact C40
    iexact A40
  ihave A41 := (wt_join c 4 1) $$ [C41 A41]
  · isplitl [C41]; · iexact C41
    iexact A41
  ihave A42 := (wt_join c 4 2) $$ [C42 A42]
  · isplitl [C42]; · iexact C42
    iexact A42
  ihave A43 := (wt_join c 4 3) $$ [C43 A43]
  · isplitl [C43]; · iexact C43
    iexact A43
  ihave A44 := (wt_join c 4 4) $$ [C44 A44]
  · isplitl [C44]; · iexact C44
    iexact A44
  ihave A45 := (wt_join c 4 5) $$ [C45 A45]
  · isplitl [C45]; · iexact C45
    iexact A45
  ihave A46 := (wt_join c 4 6) $$ [C46 A46]
  · isplitl [C46]; · iexact C46
    iexact A46
  ihave A47 := (wt_join c 4 7) $$ [C47 A47]
  · isplitl [C47]; · iexact C47
    iexact A47
  iapply (spec7 C K c) $$ [HO A57 A00 A20 A01 A21 A02 A22 A03 A23 A04 A24 A05 A25 A06 A26 A07 A27 A40 A41 A42 A43 A44 A45]
  · isplitr; · iexact HR
    isplitr; · iexact Hlev
    isplitl [HO]; · iexact HO
    isplitl [A57]; · iexact A57
    isplitl [A00]; · iexact A00
    isplitl [A20]; · iexact A20
    isplitl [A01]; · iexact A01
    isplitl [A21]; · iexact A21
    isplitl [A02]; · iexact A02
    isplitl [A22]; · iexact A22
    isplitl [A03]; · iexact A03
    isplitl [A23]; · iexact A23
    isplitl [A04]; · iexact A04
    isplitl [A24]; · iexact A24
    isplitl [A05]; · iexact A05
    isplitl [A25]; · iexact A25
    isplitl [A06]; · iexact A06
    isplitl [A26]; · iexact A26
    isplitl [A07]; · iexact A07
    isplitl [A27]; · iexact A27
    isplitl [A40]; · iexact A40
    isplitl [A41]; · iexact A41
    isplitl [A42]; · iexact A42
    isplitl [A43]; · iexact A43
    isplitl [A44]; · iexact A44
    iexact A45
  iintro ⟨HO, B57, B00, B20, B01, B21, B02, B22, B03, B23, B04, B24, B05, B25, B06, B26, B07, B27, B40, B41, B42, B43, B44, B45⟩
  unfold WP
  sl_exec
  iapply (wp_dmaR C K c 4 6 (sem9 6 rfl) rfl _ (above_nil _)) $$ [HO A46]
  · isplitr; · iexact HR
    isplitr; · iexact Hlev
    isplitl [HO]; · iexact HO
    iexact A46
  iintro ⟨HO, D46, E46⟩
  sl_exec
  ihave B46 : DP C c 4 6 $$ [D46 E46]
  · unfold DP; isplitl [D46]; · iexact D46
    iexact E46
  iapply (wp_dmaR C K c 4 7 (sem9 7 rfl) rfl _ (above_nil _)) $$ [HO A47]
  · isplitr; · iexact HR
    isplitr; · iexact Hlev
    isplitl [HO]; · iexact HO
    iexact A47
  iintro ⟨HO, D47, E47⟩
  sl_exec
  ihave B47 : DP C c 4 7 $$ [D47 E47]
  · unfold DP; isplitl [D47]; · iexact D47
    iexact E47
  ihave HB0 : (bigSep Finset.univ fun s : Fin 8 => DP C c 0 s) $$ [B00 B01 B02 B03 B04 B05 B06 B07]
  · iapply (BIBase.Entails.of_eq (sep8 _).symm)
    isplitl [B00]; · iexact B00
    isplitl [B01]; · iexact B01
    isplitl [B02]; · iexact B02
    isplitl [B03]; · iexact B03
    isplitl [B04]; · iexact B04
    isplitl [B05]; · iexact B05
    isplitl [B06]; · iexact B06
    iexact B07
  ihave HB0 := (dp_split C c 0) $$ HB0
  icases HB0 with ⟨HD0, HB0⟩
  ihave HB2 : (bigSep Finset.univ fun s : Fin 8 => DP C c 2 s) $$ [B20 B21 B22 B23 B24 B25 B26 B27]
  · iapply (BIBase.Entails.of_eq (sep8 _).symm)
    isplitl [B20]; · iexact B20
    isplitl [B21]; · iexact B21
    isplitl [B22]; · iexact B22
    isplitl [B23]; · iexact B23
    isplitl [B24]; · iexact B24
    isplitl [B25]; · iexact B25
    isplitl [B26]; · iexact B26
    iexact B27
  ihave HB2 := (dp_split C c 2) $$ HB2
  icases HB2 with ⟨HD2, HB2⟩
  ihave HB4 : (bigSep Finset.univ fun s : Fin 8 => DP C c 4 s) $$ [B40 B41 B42 B43 B44 B45 B46 B47]
  · iapply (BIBase.Entails.of_eq (sep8 _).symm)
    isplitl [B40]; · iexact B40
    isplitl [B41]; · iexact B41
    isplitl [B42]; · iexact B42
    isplitl [B43]; · iexact B43
    isplitl [B44]; · iexact B44
    isplitl [B45]; · iexact B45
    isplitl [B46]; · iexact B46
    iexact B47
  ihave HB4 := (dp_split C c 4) $$ HB4
  icases HB4 with ⟨HD4, HB4⟩
  ihave HB5 : (bigSep Finset.univ fun s : Fin 8 => DP C c 5 s) $$ [B50 B51 B52 B53 B54 B55 B56 B57]
  · iapply (BIBase.Entails.of_eq (sep8 _).symm)
    isplitl [B50]; · iexact B50
    isplitl [B51]; · iexact B51
    isplitl [B52]; · iexact B52
    isplitl [B53]; · iexact B53
    isplitl [B54]; · iexact B54
    isplitl [B55]; · iexact B55
    isplitl [B56]; · iexact B56
    iexact B57
  ihave HB5 := (dp_split C c 5) $$ HB5
  icases HB5 with ⟨HD5, HB5⟩
  ihave H6 := (dp_po C c) $$ HB0
  ihave H7 := (dp_ps C c) $$ HB2
  ihave H10 := (dp_res C c) $$ HB4
  ihave H5 := (dp_out C c) $$ HB5
  rw [wp_ret]; imodintro
  iapply Hk
  isplitl [HO]; · iexact HO
  isplitl [Ha HD0 HD1 HD2 HD3 HD4 HD5]
  · unfold done
    isplitl [Ha]; · iexact Ha
    isplitl [HD0]; · iexact HD0
    isplitl [HD1]; · iexact HD1
    isplitl [HD2]; · iexact HD2
    isplitl [HD3]; · iexact HD3
    isplitl [HD4]; · iexact HD4
    iexact HD5
  isplitl [HX Hq Hkk Hv Hw]
  · isplitl [HX]; · iexact HX
    isplitl [Hq]; · iexact Hq
    isplitl [Hkk]; · iexact Hkk
    isplitl [Hv]; · iexact Hv
    iexact Hw
  isplitl [H5]; · iapply (own_pts c cc0_stg5_0 _); iexact H5
  isplitl [H6]; · iexists _; iapply (own_pts c cc0_scratch0 _); iexact H6
  isplitl [H7]; · iexists _; iapply (own_pts c cc0_scratch1 _); iexact H7
  isplitl [H8]; · iexists _; iapply (own_pts c cc0_scratch2 _); iexact H8
  isplitl [H9]; · iexists _; iapply (own_pts c cc0_scratch3 _); iexact H9
  iexists _; iapply (own_pts c cc0_scratch4 _); iexact H10

end Cert.Run

end
-- ==== Proof.Ghost.lean ====
/-
# The exchange's cells and tokens at the launch
-/
module

public import proofs.«01_k».proof.Proof.Body
public import Idealize.ShloMosaic.Lib.Pipeline.Launch
public import Idealize.ShloMosaic.Lib.Pipeline.Kit

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

open Idealize.ShloMosaic.Pipeline (Dat Cfg Window BodyObligation cellOf)

variable (C : Cont F)

/-! ## Cells -/

theorem qs_dq' (j : Fin 6) (s : Fin 8) : qs (dq j s) = s := qs_dq j s

theorem dq_inj {j j' : Fin 6} {s s' : Fin 8} (h : dq j s = dq j' s') : j = j' ∧ s = s' :=
  ⟨by have := congrArg qj h; rwa [qj_dq, qj_dq] at this, by have := congrArg qs h; rwa [qs_dq, qs_dq] at this⟩

theorem csem_inj : Function.Injective csem := by
  rintro (_ | x) (_ | y) h
  · rfl
  · cases h
  · cases h
  · have h' : dq x.1 x.2 = dq y.1 y.2 := by injection h
    obtain ⟨h1, h2⟩ := dq_inj h'
    exact congrArg some (Prod.ext h1 h2)

theorem kcell_inj : Function.Injective (kcell : Dev nD × CK → GSem nD τ sig) := by
  rintro ⟨c, k⟩ ⟨c', k'⟩ h
  have h1 : c = c' := by have := congrArg (fun g : GSem nD τ sig => g.1.1) h; exact this
  have h2 : csem k = csem k' := congrArg Prod.snd h
  exact Prod.ext h1 (csem_inj h2)

def kCells : Finset (GSem nD τ sig) := Finset.univ.map ⟨kcell, kcell_inj⟩

/-! ## Tokens, dealt to the device that pays with them -/

/-- The devices' names for their tokens: a signal to the device `r` on, or one side of a transfer to it. -/
abbrev TI : Type := Fin 8 ⊕ (Fin 6 × Fin 8)
def tokJ (c : Dev nD) (j : Fin 6) (r : Fin 8) : GSem nD τ sig × ℕ × Dev nD :=
  if j.val % 2 = 0 then (dcell c j r, 0, 0) else (dcell (rot c r) j c, 0, 0)
def tokOf (ci : Dev nD × TI) : GSem nD τ sig × ℕ × Dev nD := match ci.2 with
  | .inl r => (bcell (rot ci.1 r), 0, ci.1)
  | .inr x => tokJ ci.1 x.1 x.2

theorem rot_inj {c : Dev nD} {r r' : Fin 8} (h : rot c r = rot c r') : r = r' := by
  rw [← gap_rot c r, h, gap_rot]

theorem tokJ_sem (c : Dev nD) (j : Fin 6) (r : Fin 8) : ∃ q, (tokJ c j r).1.2 = .dma q ∧ qj q = j := by
  unfold tokJ; split
  · exact ⟨dq j r, rfl, qj_dq j r⟩
  · exact ⟨dq j c, rfl, qj_dq j c⟩

theorem tokOf_inj : Function.Injective tokOf := by
  rintro ⟨c, i⟩ ⟨c', i'⟩ h
  rcases i with r | ⟨j, r⟩ <;> rcases i' with r' | ⟨j', r'⟩
  · have h1 : c = c' := congrArg (fun x : GSem nD τ sig × ℕ × Dev nD => x.2.2) h
    subst h1
    have h2 : rot c r = rot c r' := congrArg (fun x : GSem nD τ sig × ℕ × Dev nD => x.1.1.1) h
    rw [rot_inj h2]
  · obtain ⟨q, hq, -⟩ := tokJ_sem c' j' r'
    have h2 : SemLoc.reg barS = SemLoc.dma q := (congrArg (fun x : GSem nD τ sig × ℕ × Dev nD => x.1.2) h).trans hq
    cases h2
  · obtain ⟨q, hq, -⟩ := tokJ_sem c j r
    have h2 : SemLoc.dma q = SemLoc.reg barS := hq.symm.trans (congrArg (fun x : GSem nD τ sig × ℕ × Dev nD => x.1.2) h)
    cases h2
  · have hs : (tokJ c j r).1.2 = (tokJ c' j' r').1.2 := congrArg (fun x : GSem nD τ sig × ℕ × Dev nD => x.1.2) h
    have hd : (tokJ c j r).1.1.1 = (tokJ c' j' r').1.1.1 := congrArg (fun x : GSem nD τ sig × ℕ × Dev nD => x.1.1.1) h
    have hj : j = j' := by
      obtain ⟨q, hq, e⟩ := tokJ_sem c j r
      obtain ⟨q', hq', e'⟩ := tokJ_sem c' j' r'
      have : SemLoc.dma q = SemLoc.dma q' := hq.symm.trans (hs.trans hq')
      injection this with this
      rw [← e, ← e', this]
    subst hj
    unfold tokJ at hs hd
    by_cases hp : j.val % 2 = 0
    · rw [if_pos hp, if_pos hp] at hs hd
      have h1 : c = c' := hd
      have h2 : dq j r = dq j r' := by injection hs
      rw [h1, (dq_inj h2).2]
    · rw [if_neg hp, if_neg hp] at hs hd
      have h2 : dq j c = dq j c' := by injection hs
      have h1 : c = c' := (dq_inj h2).2
      subst h1
      rw [rot_inj (show rot c r = rot c r' from hd)]

def kToks : Finset (GSem nD τ sig × ℕ × Dev nD) := Finset.univ.map ⟨tokOf, tokOf_inj⟩

def u₀ : UU :=
  (initOf (Pipeline.cells cfgs cellOf_inj) (Pipeline.launchToks cfgs cellOf_inj), initOf kCells kToks)

/-- What a device pays with. -/
def toks (c : Dev nD) : sProp 𝕄 :=
  bigSep Finset.univ fun i : TI => dutyTok ER (tokOf (c, i)).1 (tokOf (c, i)).2.1 (tokOf (c, i)).2.2
/-- What a device is dealt at the launch: -/
def G (c : Dev nD) : sProp 𝕄 :=
  iprop((bigSep Finset.univ fun k : CK => roundState ER (Rd C) (kcell (c, k)) 0)
    ∗ (bigSep Finset.univ fun k : CK => iprop(atPos ER (kcell (c, k)) 0 ∅ 0 ∗ reached ER (kcell (c, k)) 0)) ∗ toks c)
/-- its own positions and tokens. -/
def linear (c : Dev nD) : sProp 𝕄 := iprop((bigSep Finset.univ fun k : CK => atPos ER (kcell (c, k)) 0 ∅ 0) ∗ toks c)
/-- What every device has once the cells' invariants are in place. -/
def G' (c : Dev nD) : sProp 𝕄 := iprop((∃ K, records C K) ∗ linear (F := F) c)

theorem fund_k : BI.own (ER (initOf kCells kToks)) ⊢ (|==> bigSep Finset.univ (G C) : sProp 𝕄) := by
  have hX (Φ : GSem nD τ sig → sProp 𝕄) : bigSep kCells Φ = bigSep Finset.univ fun c : Dev nD => bigSep Finset.univ fun k : CK => Φ (kcell (c, k)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]; rfl
  iintro HX
  imod (Rounds.fund ER (Rd C) kCells kToks) $$ HX with ⟨Hst, Hr, Hat, Htok⟩
  imodintro
  ihave Hst' := (Entails.of_eq (hX fun g => roundState ER (Rd C) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The launch's semaphores -/

/-- The kernel's own semaphores. -/
abbrev osem (x : Fin 6 × Fin 8) : SemLoc sig := .dma (dq x.1 x.2)

theorem stage_sem (w : Fin cfg0.W) (s : Fin (cfg0.win w).nbuf) : ((cfg0.spec w).sem s).val < 6 := by
  revert w s; decide

theorem ownSemFacts : Pipeline.OwnSemFacts cfg0.spec osem where
  isScoped := by decide
  inj := fun x y h => Prod.ext (dq_inj (by injection h)).1 (dq_inj (by injection h)).2
  disj := fun x w s h => by
    have h1 : dq x.1 x.2 = (cfg0.spec w).sem s := by injection h
    have h2 := stage_sem w s
    have h3 := dq_ge x.1 x.2
    rw [h1] at h3
    omega

theorem bigSep_opt (Φ : CK → sProp 𝕄) : bigSep Finset.univ Φ = iprop(Φ none ∗ bigSep Finset.univ fun x : Fin 6 × Fin 8 => Φ (some x)) := by
  have h : (Finset.univ : Finset CK) = insert none (Finset.univ.map Function.Embedding.some) := by decide
  rw [h, bigSep_insert (by decide), bigSep_map]; rfl

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem unscopedSems0_eq (c : Dev nD) : (unscopedSems0 c : sProp 𝕄) = semVal (bcell c) 0 := by
  unfold unscopedSems0; rw [bigSep_eq_bigSepL_of_eq [SemLoc.reg barS] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
  rw [bigSep_opt, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G C c)
      ⊢ |={Set.univ}=> iprop((bigSep Finset.univ fun k => iprop(∃ κ : ℕ, cellInv ER (Rd C) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : CK => semVal (kcell (c, k)) 0) ∗ bigSep Finset.univ fun k : CK => roundState ER (Rd C) (kcell (c, k)) 0)
      ⊢ (|={Set.univ}=> bigSep Finset.univ fun k => iprop(∃ κ : ℕ, cellInv ER (Rd C) κ (kcell (c, k))) : sProp 𝕄) from by
        rw [← bigSep_sep']
        exact (bigSep_mono fun k _ => (Rounds.body_intro ER (Rd C) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd C) κ (kcell (c, k))))
          ∗ (bigSep Finset.univ fun k => iprop(atPos ER (kcell (c, k)) 0 ∅ 0 ∗ reached ER (kcell (c, k)) 0)) ∗ toks c) : sProp 𝕄)
      ⊢ bigSep Finset.univ (G' C) := by
  rw [bigSep_sep', bigSep_sep', ← bigSep_univ_prod (fun ck : Dev nD × CK => iprop(∃ κ : ℕ, cellInv ER (Rd C) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd C) κ (kcell ck) : sProp 𝕄))) $$ HI
  icases HK with ⟨%K, #HI⟩
  iapply (with_persistent (R := records C K) (Φ := linear) fun c _ => show iprop(records C K ∗ linear c) ⊢ G' C c from by
    unfold G'
    iintro ⟨H, Hl⟩
    isplitl [H]; · iexists K; iexact H
    iexact Hl)
  isplitr
  · unfold records; isplitl; · iexact HI
    iexact HR
  · iapply ((Entails.of_eq (bigSep_sep' Finset.univ (fun c : Dev nD => bigSep Finset.univ fun k : CK => atPos ER (kcell (c, k)) 0 ∅ 0) (toks (F := F))).symm).trans
      (bigSep_mono fun c _ => show _ ⊢ linear c from Entails.rfl))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G C c) : sProp 𝕄)
    ⊢ |={Set.univ}=> bigSep Finset.univ (G' C) :=
  ((bigSep_mono fun c _ => core_alloc C c).trans (bigSep_fupd _ _)).trans (BI.fupd_mono (regroup C))

/-! ## What the launch owes a device -/

/-- What a list owes a cell. -/
def cnt : List (GSem nD τ sig × ℕ) → GSem nD τ sig → ℕ
  | [], _ => 0
  | x :: l, g => cnt l g + if g = x.1 then x.2 else 0
theorem owing_cnt (l : List (GSem nD τ sig × ℕ)) (g : GSem nD τ sig) : owing l g () = cnt l g := by
  induction l with
  | nil => rfl
  | cons x l ih =>
    show (owing l + tallyAt x.1 () x.2) g () = _
    rw [Pi.add_apply, Finsupp.add_apply, ih, tallyAt_apply]
    show _ = cnt l g + if g = x.1 then x.2 else 0
    by_cases h : g = x.1
    · rw [if_pos ⟨h, rfl⟩, if_pos h]
    · rw [if_neg fun h' => h h'.1, if_neg h]

/-- How many of the listed places have the property. -/
def num (l : List (Fin 8)) (p : Fin 8 → Prop) [DecidablePred p] : ℕ := match l with
  | [] => 0
  | r :: l => num l p + if p r then 1 else 0

theorem dcell_eq {a b : Dev nD} {j j' : Fin 6} {s s' : Fin 8} : dcell a j s = dcell b j' s' ↔ a = b ∧ j = j' ∧ s = s' := by
  constructor
  · intro h
    have h1 : a = b := congrArg (fun g : GSem nD τ sig => g.1.1) h
    have h2 : SemLoc.dma (dq j s) = SemLoc.dma (dq j' s') := congrArg Prod.snd h
    injection h2 with h2
    exact ⟨h1, dq_inj h2⟩
  · rintro ⟨rfl, rfl, rfl⟩; rfl
theorem bcell_eq {a b : Dev nD} : bcell a = bcell b ↔ a = b :=
  ⟨fun h => congrArg (fun g : GSem nD τ sig => g.1.1) h, fun h => h ▸ rfl⟩
theorem bcell_ne {a b : Dev nD} {j : Fin 6} {s : Fin 8} : bcell a ≠ dcell b j s := fun h => by
  have h2 : SemLoc.reg barS = SemLoc.dma (dq j s) := congrArg Prod.snd h
  cases h2

theorem cnt_add (p : Prop) [Decidable p] (n : ℕ) (m : ℕ) : n * m + (if p then m else 0) = (n + if p then 1 else 0) * m := by
  by_cases h : p
  · rw [if_pos h, if_pos h, Nat.add_mul, Nat.one_mul]
  · rw [if_neg h, if_neg h, Nat.add_zero, Nat.add_zero]

theorem cnt_obA_b (c d : Dev nD) (l : List (Fin 8)) : cnt (obA d l) (bcell c) = 0 := by
  induction l with
  | nil => rfl
  | cons r l ih => show cnt (obA d l) (bcell c) + _ = 0; rw [ih, if_neg bcell_ne]
theorem cnt_obS_b (c d : Dev nD) (l : List (Fin 8)) : cnt (obS d l) (bcell c) = 0 := by
  induction l with
  | nil => exact cnt_obA_b c d _
  | cons r l ih => show cnt (obS d l) (bcell c) + _ + _ = 0; rw [ih, if_neg bcell_ne, if_neg bcell_ne]
theorem cnt_obB_b (c d : Dev nD) (l : List (Fin 8)) : cnt (obB d l) (bcell c) = num l fun r => c = rot d r := by
  induction l with
  | nil => exact cnt_obS_b c d _
  | cons r l ih =>
    show cnt (obB d l) (bcell c) + (if bcell c = bcell (rot d r) then 1 else 0) = num l (fun r => c = rot d r) + if c = rot d r then 1 else 0
    rw [ih]; simp only [bcell_eq]

theorem cnt_obA_d (c d : Dev nD) (j : Fin 6) (s : Fin 8) (l : List (Fin 8)) :
    cnt (obA d l) (dcell c j s) = (num l fun r => c = rot d r ∧ j = 5 ∧ s = d) * NR := by
  induction l with
  | nil => exact (Nat.zero_mul _).symm
  | cons r l ih =>
    show cnt (obA d l) (dcell c j s) + (if dcell c j s = dcell (rot d r) 5 d then NR else 0) = (num l (fun r => c = rot d r ∧ j = 5 ∧ s = d) + if c = rot d r ∧ j = 5 ∧ s = d then 1 else 0) * NR
    rw [ih, ← cnt_add]; simp only [dcell_eq]
theorem cnt_obS_d (c d : Dev nD) (j : Fin 6) (s : Fin 8) (l : List (Fin 8)) :
    cnt (obS d l) (dcell c j s) = (num [0, 1, 2, 3, 4, 5, 6, 7] fun r => c = rot d r ∧ j = 5 ∧ s = d) * NR
      + (num l fun r => c = rot d r ∧ j = 1 ∧ s = d) * NO + (num l fun r => c = rot d r ∧ j = 3 ∧ s = d) * NS := by
  induction l with
  | nil => rw [show obS d [] = obA d [0, 1, 2, 3, 4, 5, 6, 7] from rfl, cnt_obA_d]; exact (by rw [show num [] (fun r => c = rot d r ∧ j = 1 ∧ s = d) = 0 from rfl, show num [] (fun r => c = rot d r ∧ j = 3 ∧ s = d) = 0 from rfl, Nat.zero_mul, Nat.zero_mul, Nat.add_zero])
  | cons r l ih =>
    show cnt (obS d l) (dcell c j s) + (if dcell c j s = dcell (rot d r) 3 d then NS else 0) + (if dcell c j s = dcell (rot d r) 1 d then NO else 0)
      = _ + (num l (fun r => c = rot d r ∧ j = 1 ∧ s = d) + if c = rot d r ∧ j = 1 ∧ s = d then 1 else 0) * NO
        + (num l (fun r => c = rot d r ∧ j = 3 ∧ s = d) + if c = rot d r ∧ j = 3 ∧ s = d then 1 else 0) * NS
    rw [ih, ← cnt_add, ← cnt_add]; simp only [dcell_eq]; omega
theorem cnt_obB_d (c d : Dev nD) (j : Fin 6) (s : Fin 8) (l : List (Fin 8)) :
    cnt (obB d l) (dcell c j s) = cnt (obS d [0, 1, 2, 3, 4, 5, 6, 7]) (dcell c j s) := by
  induction l with
  | nil => rfl
  | cons r l ih =>
    show cnt (obB d l) (dcell c j s) + (if dcell c j s = bcell (rot d r) then 1 else 0) = _
    rw [ih, if_neg bcell_ne.symm]; rfl

/-- What a device owes at the launch. -/
def O₀ (c : Dev nD) : CellTallies nD τ sig Unit := owing (obB c [1, 2, 3, 4, 5, 6, 7])

/-- What a cell is owed at the launch. -/
def amtC : CK → ℕ
  | none => 7
  | some x => if x.1.val % 2 = 0 then 0 else amt x.1

theorem sum_b (c : Dev nD) : ∑ d : Dev nD, num [1, 2, 3, 4, 5, 6, 7] (fun r => c = rot d r) = 7 := by revert c; decide
theorem sum_d (c : Dev nD) (s : Fin 8) : ∑ d : Dev nD, num [0, 1, 2, 3, 4, 5, 6, 7] (fun r => c = rot d r ∧ s = d) = 1 := by revert c s; decide
theorem num_j (c d : Dev nD) (j j' : Fin 6) (s : Fin 8) (l : List (Fin 8)) :
    num l (fun r => c = rot d r ∧ j = j' ∧ s = d) = if j = j' then num l (fun r => c = rot d r ∧ s = d) else 0 := by
  by_cases h : j = j'
  · rw [if_pos h]; simp only [h, true_and]
  · rw [if_neg h]
    induction l with
    | nil => rfl
    | cons r l ih => show num l _ + _ = 0; rw [ih, if_neg fun h' => h h'.2.1]

theorem owed_sum (c : Dev nD) (k : CK) : ∑ d : Dev nD, O₀ d (kcell (c, k)) () = amtC k := by
  unfold O₀
  rcases k with _ | ⟨j, s⟩
  · exact (Finset.sum_congr rfl fun d _ => (owing_cnt _ _).trans (cnt_obB_b c d _)).trans (sum_b c)
  · refine (Finset.sum_congr rfl fun d _ => (owing_cnt _ _).trans ((cnt_obB_d c d j s _).trans (cnt_obS_d c d j s _))).trans ?_
    simp only [num_j]
    rw [Finset.sum_add_distrib, Finset.sum_add_distrib, ← Finset.sum_mul, ← Finset.sum_mul, ← Finset.sum_mul]
    have h (j' : Fin 6) : ∑ d : Dev nD, (if j = j' then num [0, 1, 2, 3, 4, 5, 6, 7] (fun r => c = rot d r ∧ s = d) else 0) = if j = j' then 1 else 0 := by
      by_cases e : j = j'
      · simp only [if_pos e]; exact sum_d c s
      · simp only [if_neg e]; exact Finset.sum_const_zero
    rw [h, h, h]
    unfold amtC
    fin_cases j
    · simp
    · simp [amt]
    · simp
    · simp [amt]
    · simp
    · simp [amt]

theorem launch_cell (c : Dev nD) (k : CK) :
    tallyOn (kcell (c, k)) (launchCredit (Pipeline.owing O₀) 0 (kcell (c, k))) = (tallyAt (kcell (c, k)) () (amtC k) : CellTallies nD τ sig Unit) := by
  unfold tallyAt; refine congrArg _ (Finsupp.ext fun u => ?_); cases u
  rw [Pipeline.launchCredit_owing, Finsupp.single_eq_same, owed_sum]

theorem creds (c : Dev nD) :
    (Pipeline.launchCred O₀ c : sProp 𝕄) ⊢ bigSep Finset.univ fun k : CK => cred (tallyAt (kcell (c, k)) () (amtC k)) := by
  unfold Pipeline.launchCred
  refine (bigSep_subset (t := Finset.univ.map ⟨csem, csem_inj⟩) (Finset.subset_univ _)).trans ?_
  rw [bigSep_map]
  exact Entails.of_eq (bigSep_congr fun k _ => congrArg cred (launch_cell c k))

/-! ## A device's share, kind by kind -/

theorem by_kind (Φ : Fin 6 → Fin 8 → sProp 𝕄) : (bigSep Finset.univ fun x : Fin 6 × Fin 8 => Φ x.1 x.2)
    = iprop((bigSep Finset.univ (Φ 0)) ∗ (bigSep Finset.univ (Φ 1)) ∗ (bigSep Finset.univ (Φ 2)) ∗ (bigSep Finset.univ (Φ 3)) ∗ (bigSep Finset.univ (Φ 4)) ∗ bigSep Finset.univ (Φ 5)) := by
  rw [bigSep_univ_prod, bigSep_six]

theorem bigSep_ti (Φ : TI → sProp 𝕄) : bigSep Finset.univ Φ = iprop((bigSep Finset.univ fun r => Φ (.inl r)) ∗ bigSep Finset.univ fun x => Φ (.inr x)) := by
  have h : (Finset.univ : Finset TI) = (Finset.univ.map Function.Embedding.inl) ∪ (Finset.univ.map Function.Embedding.inr) := by decide
  rw [h, bigSep_union (by decide), bigSep_map, bigSep_map]; rfl

theorem start_of (c : Dev nD) : iprop((Pipeline.launchCred O₀ c : sProp 𝕄) ∗ linear (F := F) c) ⊢ start (F := F) c := by
  unfold linear toks start BT
  rw [bigSep_ti, sep8]
  iintro ⟨Hc, Ha, ⟨-, T1, T2, T3, T4, T5, T6, T7⟩, HT⟩
  ihave Hc := (creds (F := F) c) $$ Hc
  ihave Hc := (Entails.of_eq (bigSep_opt _)) $$ Hc
  icases Hc with ⟨Hb, Hc⟩
  ihave Hc := (show (bigSep Finset.univ fun x : Fin 6 × Fin 8 => cred (tallyAt (kcell (c, some x)) () (amtC (some x)))) ⊢ _ from
    Entails.of_eq (by_kind fun j s => cred (tallyAt (dcell c j s) () (amtC (some (j, s)))))) $$ Hc
  icases Hc with ⟨-, Hc1, -, Hc3, -, Hc5⟩
  ihave Ha := (Entails.of_eq (bigSep_opt _)) $$ Ha
  icases Ha with ⟨Hab, Ha⟩
  ihave Ha := (show (bigSep Finset.univ fun x : Fin 6 × Fin 8 => atPos ER (kcell (c, some x)) 0 ∅ 0) ⊢ _ from
    Entails.of_eq (by_kind fun j s => AT (F := F) c j s)) $$ Ha
  icases Ha with ⟨Ha0, Ha1, Ha2, Ha3, Ha4, Ha5⟩
  ihave HT := (show (bigSep Finset.univ fun x : Fin 6 × Fin 8 => dutyTok ER (tokOf (c, .inr x)).1 (tokOf (c, .inr x)).2.1 (tokOf (c, .inr x)).2.2) ⊢ _ from
    Entails.of_eq (by_kind fun j s => dutyTok ER (tokJ c j s).1 (tokJ c j s).2.1 (tokJ c j s).2.2)) $$ HT
  icases HT with ⟨Ht0, Ht1, Ht2, Ht3, Ht4, Ht5⟩
  isplitl [Hb]; · iexact Hb
  isplitl [Hab]; · iexact Hab
  isplitl [T1 T2 T3 T4 T5 T6 T7]
  · isplitl [T1]; · iexact T1
    isplitl [T2]; · iexact T2
    isplitl [T3]; · iexact T3
    isplitl [T4]; · iexact T4
    isplitl [T5]; · iexact T5
    isplitl [T6]; · iexact T6
    iexact T7
  isplitl [Ht0 Ht1 Ht2 Ht3 Ht4 Ht5]
  · unfold TK
    rw [bigSep_sep', bigSep_sep', bigSep_sep', bigSep_sep', bigSep_sep']
    isplitl [Ht0 Ht1]
    · isplitl [Ht0]; · iexact Ht0
      iexact Ht1
    isplitl [Ht2 Ht3]
    · isplitl [Ht2]; · iexact Ht2
      iexact Ht3
    isplitl [Ht4]; · iexact Ht4
    iexact Ht5
  isplitl [Ha0]; · iexact Ha0
  isplitl [Hc1 Ha1]
  · unfold WT; rw [bigSep_sep']
    isplitl [Hc1]; · iexact Hc1
    iexact Ha1
  isplitl [Ha2]; · iexact Ha2
  isplitl [Hc3 Ha3]
  · unfold WT; rw [bigSep_sep']
    isplitl [Hc3]; · iexact Hc3
    iexact Ha3
  isplitl [Ha4]; · iexact Ha4
  unfold WT; rw [bigSep_sep']
  isplitl [Hc5]; · iexact Hc5
  iexact Ha5

/-- At the end every cell closes and its counter reads zero. -/
theorem close_cell (K : Dev nD × CK → ℕ) (c : Dev nD) (k : CK) :
    iprop(records C K ∗ atPos ER (kcell (c, k)) 1 ∅ 0) ⊢ |={Set.univ}=> semVal (kcell (c, k)) 0 := by
  iintro ⟨HR, Ha⟩
  ihave HI := (rec_inv C K (c, k)) $$ HR
  imod (Rounds.cell_close ER (Rd C) (Set.mem_univ (K (c, k))) (fun h => h) (R := 0 + 1) (duties_later C (kcell (c, k)))) $$ [HI Ha] with Hz
  · isplitl [HI]; · iexact HI
    iexact Ha
  imodintro
  iexact Hz

theorem close_all (K : Dev nD × CK → ℕ) (c : Dev nD) :
    iprop(records C K ∗ done (F := F) c) ⊢ |={Set.univ}=> bigSep Finset.univ fun k : CK => semVal (kcell (c, k)) 0 := by
  refine BIBase.Entails.trans ?_ ((with_persistent (R := records C K) (Φ := fun k : CK => atPos ER (kcell (c, k)) 1 ∅ 0) fun k _ => close_cell C K c k).trans (bigSep_fupd _ _))
  refine sep_mono_right ?_
  unfold done
  rw [bigSep_opt]
  exact sep_mono_right (Entails.of_eq (by_kind fun j s => DN (F := F) c j s).symm)

end Cert.Run

end
-- ==== Proof.Run.lean ====
/-
# The whole run
-/
module

public import proofs.«01_k».proof.Proof.Ghost
public import proofs.«01_k».proof.Proof.Gen.KernelIdeal.Frame
public import Idealize.ShloMosaic.Lib.Pipeline.CollectiveSegs

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## What the devices compute, from what the memory holds at the launch -/

/-- The operands as a device's kernel finds them. -/
def xA (c : Dev nD) : FVec F S1x1024x1024 .f32 := iblk m c 0 t0_0
def wqA (c : Dev nD) : FVec F S1024x1024 .f32 := iblk m c 1 t0_0
def kA (c : Dev nD) : FVec F S1x1024x8x128 .f32 := iblk m c 2 t0_0
def vA (c : Dev nD) : FVec F S1x1024x8x128 .f32 := iblk m c 3 t0_0
def woA (c : Dev nD) : FVec F S1024x1024 .f32 := iblk m c 4 t0_0

def poA (c : Dev nD) : FVec F S1024x8x128 .f32 := partO (k0_pay1 (xA m c) (wqA m c)) (k0_pay2 (kA m c)) (k0_pay3 (vA m c))
def psA (c : Dev nD) : FVec F S1024x16 .f32 := partS (k0_pay1 (xA m c) (wqA m c)) (k0_pay2 (kA m c))
def CA : Cont F where
  po := poA m
  ps := psA m
  rs c := comb (fun j => sM (rowsS (psA m j) c)) (fun j => sL (rowsS (psA m j) c)) (fun j => rowsO (poA m j) c) (woA m c)

/-- The result, the same on every device. -/
def outA : FVec F S1x1024x1024 .f32 := allR (CA m).rs

/-! ## The pipeline's data -/

/-- What a device's kernel starts from apart from the scratch buffers. -/
def X₀ (c : Dev nD) : sProp 𝕄 := iprop((∃ K, records (CA m) K) ∗ levAts L lv ∗ start (F := F) c)
def Φ₀ (c : Dev nD) : sProp 𝕄 := iprop(X₀ m c ∗ scr (F := F) c)
def Φ₁ (c : Dev nD) : sProp 𝕄 := iprop((bigSep Finset.univ fun k : CK => semVal (kcell (c, k)) 0) ∗ scr (F := F) c)

def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => wqA m c
    | ⟨2, _⟩ => kA m c
    | ⟨3, _⟩ => vA m c
    | ⟨4, _⟩ => woA m c
    | ⟨5, _⟩ => outA m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
def bodyPost (c : Dev nD) : sProp 𝕄 :=
  iprop(Φ₁ (F := F) c ∗ (dats m 0 c).owesAt () t0_0.succ
    ∗ stg c cc0_stg0_0 (xA m c) ∗ stg c cc0_stg1_0 (wqA m c) ∗ stg c cc0_stg2_0 (kA m c) ∗ stg c cc0_stg3_0 (vA m c)
    ∗ stg c cc0_stg4_0 (woA m c) ∗ stg c cc0_stg5_0 (outA m))

/-- A buffer holding given contents. -/
theorem stg_intro (c : Dev nD) (b : Ref sig .tc) (X : b.ty.Contents (Elt F)) :
    ((((c : Thread nD τ).loc b) ↦{fullShare} X) : sProp 𝕄) ⊢ stg c b X := by
  iintro H; iexists X; isplitr; · (ipureintro; rfl)
  iexact H

set_option maxRecDepth 60000 in
set_option maxHeartbeats 1000000 in
theorem sound_body (c : Dev nD) :
    bodyPre m c ⊢ wp frame (wpE (defs₀ (F := F)) 𝒱₀ (c : Thread nD τ) none) Set.univ
      (cc0_body (F := F) xM (Memref.isWhole_whole _) wqM (Memref.isWhole_whole _) kM (Memref.isWhole_whole _) vM (Memref.isWhole_whole _)
        woM (Memref.isWhole_whole _) outM (Memref.isWhole_whole _) poM (Memref.isWhole_whole _) psM (Memref.isWhole_whole _)
        cbM (Memref.isWhole_whole _) csM (Memref.isWhole_whole _) resM (Memref.isWhole_whole _) cc0_scratch5 cc0_scratch6 cc0_scratch7
        cc0_scratch8 cc0_scratch9 cc0_scratch10) (fun _ => bodyPost m c) := by
  refine BIBase.Entails.trans ?_ (wp_fupd _ _ _ _ _)
  unfold bodyPre Φ₀ X₀
  iintro ⟨⟨⟨⟨%K, #HR⟩, #Hlev, Hst⟩, Hscr⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = xA m c := by rw [h0]; unfold Dat.before; rw [if_pos (fetch0_0 t0_0)]; rfl
  have e1 : g1 = wqA m c := by rw [h1]; unfold Dat.before; rw [if_pos (fetch0_1 t0_0)]; rfl
  have e2 : g2 = kA m c := by rw [h2]; unfold Dat.before; rw [if_pos (fetch0_2 t0_0)]; rfl
  have e3 : g3 = vA m c := by rw [h3]; unfold Dat.before; rw [if_pos (fetch0_3 t0_0)]; rfl
  have e4 : g4 = woA m c := by rw [h4]; unfold Dat.before; rw [if_pos (fetch0_4 t0_0)]; rfl
  subst e0 e1 e2 e3 e4
  unfold Dat.owesAt Pipeline.owesWithin
  icases Ho with ⟨%W, %hW, HO⟩
  rw [show (dats m 0 c).owed t0_0.castSucc = O₀ c from rfl]
  iapply (run_body (CA m) K c (xA m c) (wqA m c) (kA m c) (vA m c) (woA m c) g5 rfl rfl rfl) $$ [HO Hst Hscr H0 H1 H2 H3 H4 H5]
  · isplitr; · iexact HR
    isplitr; · iexact Hlev
    isplitl [HO]; · unfold Ow; iexists W; iexact HO
    isplitl [Hst]; · iexact Hst
    isplitl [H0 H1 H2 H3 H4]
    · unfold ins
      isplitl [H0]; · iexact H0
      isplitl [H1]; · iexact H1
      isplitl [H2]; · iexact H2
      isplitl [H3]; · iexact H3
      iexact H4
    isplitl [H5]; · iexact H5
    iexact Hscr
  unfold ins
  iintro ⟨HO, Hd, ⟨H0, H1, H2, H3, H4⟩, H5, Hscr⟩
  imod (close_all (CA m) K c) $$ [Hd] with Hz
  · isplitr; · iexact HR
    iexact Hd
  imodintro
  unfold bodyPost Φ₁ Dat.owesAt Pipeline.owesWithin Ow
  rw [show (dats m 0 c).owed t0_0.succ = owing [] from rfl]
  icases HO with ⟨%W', HO⟩
  isplitl [Hz Hscr]
  · isplitl [Hz]; · iexact Hz
    iexact Hscr
  isplitl [HO]
  · iexists W'
    isplitr; · ipureintro; exact fun _ _ => Or.inl trivial
    iexact HO
  isplitl [H0]; · iapply (stg_intro c cc0_stg0_0 (xA m c)); iexact H0
  isplitl [H1]; · iapply (stg_intro c cc0_stg1_0 (wqA m c)); iexact H1
  isplitl [H2]; · iapply (stg_intro c cc0_stg2_0 (kA m c)); iexact H2
  isplitl [H3]; · iapply (stg_intro c cc0_stg3_0 (vA m c)); iexact H3
  isplitl [H4]; · iapply (stg_intro c cc0_stg4_0 (woA m c)); iexact H4
  iapply (stg_intro c cc0_stg5_0 (outA m)); iexact H5

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 60000 in
theorem body_obligation (c : Dev nD) : BodyObligation (dats (F := F) m 0 c) (defs₀ (F := F)) 𝒱₀ () Set.univ := fun t => by
  rw [fin_N0 t]
  rw [bigSep_W, bigSep_W]
  simp only [owns_whole_eq]
  exact sound_body m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (CA m) c)
      ⊢ |={Set.univ}=> iprop(X₀ m c ∗ emp) := by
  unfold G' X₀
  iintro ⟨-, Hlev, Hcr, -, HK, Hl⟩
  imodintro
  isplitl
  · isplitl [HK]; · iexact HK
    isplitl [Hlev]; · iexact Hlev
    iapply (start_of c)
    isplitl [Hcr]; · iexact Hcr
    iexact Hl
  · iempintro

theorem phi0_intro (c : Dev nD) :
    iprop(X₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scr
  rw [← sems0_eq]
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t => by
    have hq : lvS (.dma ((cfg0.spec w).sem s)) = 0 := if_pos (stage_sem w s)
    rcases t with ⟨_ | _, ht⟩
    · exact mayWait_of_above c _ _ (above_mono (Nat.le_of_eq hq) (above_obB c _))
    · exact mayWait_of_above c _ [] (above_nil _)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 60000 in
/-- From any memory with every semaphore at zero, every device's run ends, with the arrays at the computed contents and
    every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (CA m)) (G' := G' (CA m)) (u₀ := u₀)
    (hu₀ := by
      unfold u₀
      iintro Hu
      ihave H := (ownU_pair _ _) $$ Hu
      icases H with ⟨HP, HX⟩
      imod (fund_k (CA m)) $$ HX with HG
      imodintro
      isplitl [HP] <;> iassumption)
    (hglob := glob (CA m))
    (hA := fun _ _ => rfl) (hpf := fun _ k => k.elim0)
    (X := X₀ m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands end as they were. -/
theorem finalA_in (c : Dev nD) : finalA m c 0 = m ((c : Thread nD τ).loc main_arg0) ∧ finalA m c 1 = m ((c : Thread nD τ).loc main_arg1)
    ∧ finalA m c 2 = m ((c : Thread nD τ).loc main_arg2) ∧ finalA m c 3 = m ((c : Thread nD τ).loc main_arg3) ∧ finalA m c 4 = m ((c : Thread nD τ).loc main_arg4) :=
  ⟨(dats m 0 c).arrAt_in 0 rfl _, (dats m 0 c).arrAt_in 1 rfl _, (dats m 0 c).arrAt_in 2 rfl _, (dats m 0 c).arrAt_in 3 rfl _, (dats m 0 c).arrAt_in 4 rfl _⟩

/-- Every run ends with the operands as they were and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    let e := finalA_in m c
    ⟨(h.1 c 0).trans e.1, (h.1 c 1).trans e.2.1, (h.1 c 2).trans e.2.2.1, (h.1 c 3).trans e.2.2.2.1, (h.1 c 4).trans e.2.2.2.2⟩, h.2⟩) (run_main m ρ)

end Cert.Run

end
-- ==== Proof.Same.lean ====
/-
# The printed kernel and its ideal reading are one text

The two programs have the same operations; only their names differ, and the table of bodies is written by cases on the
label. They are equal over any float values.
-/
module

public import proofs.«01_k».proof.Proof.Gen.Kernel
public import proofs.«01_k».proof.Proof.Gen.KernelIdeal

@[expose] public section

noncomputable section

namespace Cert.Run

open Idealize.ShloMosaic Idealize.SL.Sem

variable {F : FTy → Type} [FloatOps F]

set_option maxRecDepth 60000 in
theorem body_same : Cert.Kernel.cc0_body (F := F) = Cert.KernelIdeal.cc0_body (F := F) := rfl

set_option maxRecDepth 60000 in
theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- The two tables of bodies and regions are equal. -/
theorem defs_same : Cert.Kernel.defs (F := F) = Cert.KernelIdeal.defs (F := F) :=
  congrArg (Pipeline.defs Cert.KernelIdeal.pcfgs) bodies_same

/-- What every run of the one reaches, every run of the other reaches. -/
theorem run_same (s : MemSt Cert.KernelIdeal.nD Cert.KernelIdeal.τ Cert.KernelIdeal.sig (Elt F))
    {Q : (PUnit × MemSt Cert.KernelIdeal.nD Cert.KernelIdeal.τ Cert.KernelIdeal.sig (Elt F)) → Prop}
    (h : θ_run (Cert.KernelIdeal.defs (F := F)) (onTc (τ := Cert.KernelIdeal.τ) (Cert.KernelIdeal.main (F := F))) s Q) :
    θ_run (Cert.Kernel.defs (F := F)) (onTc (τ := Cert.KernelIdeal.τ) (Cert.KernelIdeal.main (F := F))) s Q :=
  Eq.mpr (congrArg (fun D => θ_run D (onTc (τ := Cert.KernelIdeal.τ) (Cert.KernelIdeal.main (F := F))) s Q) defs_same) h

end Cert.Run

end
-- ==== Proof.Algebra.lean ====
/-
# Weighted means over the extended reals

Real weights, values of any kind: a weighted mean does not change when all weights are scaled by one positive number. Both
forms of the softmax, the one taken in eight parts with a maximum each and the one taken at once under a mask, are such
means with the same weights up to scale.
-/
module

public import Idealize.ShloMosaic.PureOps.Ideal

@[expose] public section

noncomputable section

namespace Cert.Run

open Idealize.ShloMosaic
open scoped BigOperators

/-- A sum of reals, taken over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real times a sum. -/
theorem mul_sum_real {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.2 hr) (EReal.coe_ne_top r), ih]

/-- The weighted mean of `v` with weights `e`. -/
def mean {κ : Type*} [Fintype κ] (e : κ → ℝ) (v : κ → EReal) : EReal :=
  (∑ k, (e k : EReal) * v k) * (((∑ k, e k)⁻¹ : ℝ) : EReal)

/-- The mean with all weights scaled. -/
theorem mean_scale {κ : Type*} [Fintype κ] (c : ℝ) (hc : 0 < c) (e : κ → ℝ) (v : κ → EReal) :
    mean (fun k => c * e k) v = mean e v := by
  unfold mean
  have h : ∑ k, ((c * e k : ℝ) : EReal) * v k = (c : EReal) * ∑ k, (e k : EReal) * v k := by
    rw [mul_sum_real _ c hc.le]
    exact Finset.sum_congr rfl fun k _ => by rw [EReal.coe_mul, mul_assoc]
  rw [h, ← Finset.mul_sum, mul_inv, EReal.coe_mul, mul_comm (c : EReal), mul_assoc, ← mul_assoc (c : EReal), ← EReal.coe_mul,
    mul_inv_cancel₀ hc.ne', EReal.coe_one, one_mul]

theorem exp_sub (a b : ℝ) : Ideal.exp ((a : EReal) - (b : EReal)) = ((Real.exp (a - b) : ℝ) : EReal) := by
  rw [← EReal.coe_sub]; rfl

theorem exp_bot_sub (b : ℝ) : Ideal.exp ((⊥ : EReal) - (b : EReal)) = ((0 : ℝ) : EReal) := by
  rw [EReal.bot_sub]; rfl

theorem div_real (x : EReal) (r : ℝ) (hr : 0 < r) : Ideal.div x (r : EReal) = x * ((r⁻¹ : ℝ) : EReal) := by
  unfold Ideal.div
  rw [if_neg (by exact_mod_cast hr.ne'), EReal.coe_inv]

/-- The largest of finitely many values none of which is `⊤` and one of which is real is a real number. -/
theorem fold_max_real {ι : Type*} (s : Finset ι) (f : ι → EReal) (ht : ∀ i ∈ s, f i ≠ ⊤) (i : ι) (hi : i ∈ s) (hb : f i ≠ ⊥) :
    ∃ r : ℝ, s.fold max ⊥ f = (r : EReal) := by
  have h₁ : s.fold max ⊥ f < ⊤ := (Finset.fold_max_lt _).2 ⟨bot_lt_top, fun x hx => lt_top_iff_ne_top.2 (ht x hx)⟩
  have h₂ : ⊥ < s.fold max ⊥ f := (Finset.lt_fold_max _).2 (.inr ⟨i, hi, bot_lt_iff_ne_bot.2 hb⟩)
  exact ⟨_, (EReal.coe_toReal h₁.ne h₂.ne').symm⟩

/-- A softmax in eight parts, each with a shift of its own and all brought to one. -/
theorem mean_parts {ι κ : Type*} [Fintype ι] [Fintype κ] [Nonempty ι] [Nonempty κ] (s : ι → κ → ℝ) (m : ι → ℝ) (M : ℝ) (v : ι → κ → EReal) :
    Ideal.div (∑ j, Ideal.exp ((m j : EReal) - M) * ∑ p, Ideal.exp ((s j p : EReal) - m j) * v j p)
        (∑ j, Ideal.exp ((m j : EReal) - M) * ∑ p, Ideal.exp ((s j p : EReal) - m j))
      = mean (fun x : ι × κ => Real.exp (s x.1 x.2)) (fun x => v x.1 x.2) := by
  have hw : ∀ j p, Real.exp (m j - M) * Real.exp (s j p - m j) = Real.exp (-M) * Real.exp (s j p) := fun j p => by
    rw [← Real.exp_add, ← Real.exp_add]; congr 1; ring
  have hO : (∑ j, Ideal.exp ((m j : EReal) - M) * ∑ p, Ideal.exp ((s j p : EReal) - m j) * v j p)
      = ∑ x : ι × κ, ((Real.exp (-M) * Real.exp (s x.1 x.2) : ℝ) : EReal) * v x.1 x.2 := by
    rw [Fintype.sum_prod_type]
    refine Finset.sum_congr rfl fun j _ => ?_
    rw [exp_sub, mul_sum_real _ _ (Real.exp_pos _).le]
    refine Finset.sum_congr rfl fun p _ => ?_
    rw [exp_sub, ← mul_assoc, ← EReal.coe_mul, hw]
  have hL : (∑ j, Ideal.exp ((m j : EReal) - M) * ∑ p, Ideal.exp ((s j p : EReal) - m j))
      = ((∑ x : ι × κ, Real.exp (-M) * Real.exp (s x.1 x.2) : ℝ) : EReal) := by
    rw [Fintype.sum_prod_type, coe_sum]
    refine Finset.sum_congr rfl fun j _ => ?_
    rw [exp_sub, mul_sum_real _ _ (Real.exp_pos _).le, coe_sum]
    refine Finset.sum_congr rfl fun p _ => ?_
    rw [exp_sub, ← EReal.coe_mul, hw]
  rw [hO, hL, div_real _ _ (Finset.sum_pos (fun x _ => mul_pos (Real.exp_pos _) (Real.exp_pos _)) Finset.univ_nonempty)]
  exact mean_scale (Real.exp (-M)) (Real.exp_pos _) (fun x : ι × κ => Real.exp (s x.1 x.2)) (fun x => v x.1 x.2)

/-- A softmax under a mask, taken at once. -/
theorem mean_masked {κ : Type*} [Fintype κ] (keep : κ → Prop) [DecidablePred keep] (s : κ → ℝ) (M : ℝ) (v : κ → EReal) (k₀ : κ) (h₀ : keep k₀) :
    ∑ k, v k * Ideal.div (Ideal.exp ((if keep k then (s k : EReal) else ⊥) - (M : EReal)))
        (∑ k', Ideal.exp ((if keep k' then (s k' : EReal) else ⊥) - (M : EReal)))
      = mean (fun k => if keep k then Real.exp (s k) else 0) v := by
  have he : ∀ k, Ideal.exp ((if keep k then (s k : EReal) else ⊥) - (M : EReal))
      = ((Real.exp (-M) * (if keep k then Real.exp (s k) else 0) : ℝ) : EReal) := fun k => by
    by_cases h : keep k
    · rw [if_pos h, if_pos h, exp_sub, ← Real.exp_add]; congr 2; ring
    · rw [if_neg h, if_neg h, exp_bot_sub, mul_zero]
  have hnn : ∀ k, 0 ≤ Real.exp (-M) * (if keep k then Real.exp (s k) else 0) := fun k =>
    mul_nonneg (Real.exp_pos _).le (by split <;> first | exact (Real.exp_pos _).le | exact le_rfl)
  have hpos : 0 < ∑ k, Real.exp (-M) * (if keep k then Real.exp (s k) else 0) :=
    Finset.sum_pos' (fun k _ => hnn k) ⟨k₀, Finset.mem_univ _, by rw [if_pos h₀]; exact mul_pos (Real.exp_pos _) (Real.exp_pos _)⟩
  simp only [he]
  rw [← coe_sum]
  rw [← mean_scale (Real.exp (-M)) (Real.exp_pos _)]
  unfold mean
  rw [mul_comm (∑ k, _) _, mul_sum_real _ _ (inv_nonneg.2 hpos.le)]
  refine Finset.sum_congr rfl fun k _ => ?_
  rw [div_real _ _ hpos, mul_comm (v k), mul_right_comm, mul_comm]

/-- An extended real that is a real number. -/
def IsReal (x : EReal) : Prop := ∃ r : ℝ, x = (r : EReal)

theorem IsReal.of_ne {x : EReal} (ht : x ≠ ⊤) (hb : x ≠ ⊥) : IsReal x := ⟨_, (EReal.coe_toReal ht hb).symm⟩

theorem IsReal.mul {x y : EReal} (hx : IsReal x) (hy : IsReal y) : IsReal (x * y) := by
  obtain ⟨r, rfl⟩ := hx
  obtain ⟨t, rfl⟩ := hy
  exact ⟨r * t, (EReal.coe_mul r t).symm⟩

theorem IsReal.sum {ι : Type*} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩

theorem ofBits_ninf : Ideal.ofBits .f32 0xFF800000#32 = ⊥ := by simp [Ideal.ofBits, Ideal.ieee]

/-- The factor on the scores. -/
def sc : EReal := Ideal.ofBits .f32 0x3DB504F3#32

theorem sc_real : IsReal sc := by
  have h : sc = ((11863283 : ℝ) : EReal) * (((2 ^ 27)⁻¹ : ℝ) : EReal) := by simp [sc, Ideal.ofBits, Ideal.ieee]
  exact h ▸ IsReal.mul ⟨_, rfl⟩ ⟨_, rfl⟩

/-- A mean over the kept keys is the mean over any listing of them. -/
theorem mean_listed {ι κ : Type*} [Fintype ι] [Fintype κ] (keep : κ → Prop) [DecidablePred keep] (e : ι → κ)
    (he : Function.Injective e) (hk : ∀ k, keep k ↔ ∃ x, e x = k) (w : κ → ℝ) (v : κ → EReal) :
    mean (fun k => if keep k then w k else 0) v = mean (fun x => w (e x)) (fun x => v (e x)) := by
  have h₁ : ∑ x, w (e x) = ∑ k, (if keep k then w k else 0) :=
    Finset.sum_of_injOn e he.injOn (fun _ _ => Finset.mem_coe.2 (Finset.mem_univ _))
      (fun k _ hn => if_neg fun h => hn ((hk k).1 h |>.imp fun x hx => ⟨Finset.mem_coe.2 (Finset.mem_univ _), hx⟩))
      (fun x _ => (if_pos ((hk _).2 ⟨x, rfl⟩)).symm)
  have h₂ : ∑ x, (w (e x) : EReal) * v (e x) = ∑ k, ((if keep k then w k else 0 : ℝ) : EReal) * v k :=
    Finset.sum_of_injOn e he.injOn (fun _ _ => Finset.mem_coe.2 (Finset.mem_univ _))
      (fun k _ hn => by
        rw [if_neg fun h => hn ((hk k).1 h |>.imp fun x hx => ⟨Finset.mem_coe.2 (Finset.mem_univ _), hx⟩), EReal.coe_zero, zero_mul])
      (fun x _ => by rw [if_pos ((hk _).2 ⟨x, rfl⟩)])
  unfold mean
  rw [← h₁, ← h₂]

end Cert.Run

end
-- ==== Proof.KernelMath.lean ====
module

public import proofs.«01_k».proof.Proof.Contents
public import proofs.«01_k».proof.Proof.Algebra
public import Idealize.ShloMosaic.Lib.Pointwise

/-! The kernel's partial results and their combination, read at one index. -/

@[expose] public section

noncomputable section

namespace Cert.Run

open Cert.KernelIdeal Cert.KernelIdeal.Gen
open Idealize.ShloMosaic
open Idealize.ShloMosaic (ix1 ix2 ix3 ix4)

theorem q_apply (x : FVec Ideal S1x1024x1024 .f32) (wq : FVec Ideal S1024x1024 .f32) (i a : Fin 1024) :
    k0_pay1 x wq (ix2 i a) = ∑ b : Fin 1024, x (ix3 0 i b) * wq (ix2 b a) := by
  pointwise [k0_pay1]

theorem k_apply (k : FVec Ideal S1x1024x8x128 .f32) (i : Fin 1024) (h : Fin 8) (d : Fin 128) :
    k0_pay2 k (ix3 i h d) = k (ix4 0 i h d) := by
  pointwise [k0_pay2]

theorem v_apply (k : FVec Ideal S1x1024x8x128 .f32) (i : Fin 1024) (h : Fin 8) (d : Fin 128) :
    k0_pay3 k (ix3 i h d) = k (ix4 0 i h d) := by
  pointwise [k0_pay3]

theorem score_apply (q : FVec Ideal S256x128 .f32) (k : FVec Ideal S256x1x128 .f32) (p p' : Fin 256) :
    k0_pay9 q k (ix2 p p') = (∑ d : Fin 128, q (ix2 p d) * k (ix3 p' 0 d)) * sc := by
  pointwise [k0_pay9, sc]

theorem max_apply (q : FVec Ideal S256x128 .f32) (k : FVec Ideal S256x1x128 .f32) (p : Fin 256) :
    k0_pay10 q k (ix2 p 0) = Finset.univ.fold max ⊥ fun p' : Fin 256 => k0_pay9 q k (ix2 p p') := by
  pointwise [k0_pay10]
  rw [ofBits_ninf]

theorem weight_apply (q : FVec Ideal S256x128 .f32) (k : FVec Ideal S256x1x128 .f32) (p p' : Fin 256) :
    k0_pay11 q k (ix2 p p') = Ideal.exp (k0_pay9 q k (ix2 p p') - k0_pay10 q k (ix2 p 0)) := by
  pointwise [k0_pay11]

theorem sum_apply (q : FVec Ideal S256x128 .f32) (k : FVec Ideal S256x1x128 .f32) (p : Fin 256) :
    k0_pay12 q k (ix2 p 0) = ∑ p' : Fin 256, k0_pay11 q k (ix2 p p') := by
  pointwise [k0_pay12]

theorem oh_apply (q : FVec Ideal S256x128 .f32) (k v : FVec Ideal S256x1x128 .f32) (p : Fin 256) (d : Fin 128) :
    oh q k v (ix3 p 0 d) = ∑ p' : Fin 256, k0_pay11 q k (ix2 p p') * v (ix3 p' 0 d) := by
  pointwise [oh]

theorem hq_apply (q : FVec Ideal S256x1024 .f32) (h : Fin 8) (p : Fin 256) (d : Fin 128) :
    hq q h (ix2 p d) = q (ix2 p ⟨128 * h.val + d.val, by omega⟩) := by
  pointwise [hq]

theorem hk_apply (q : FVec Ideal S256x8x128 .f32) (h : Fin 8) (p : Fin 256) (d : Fin 128) :
    hk q h (ix3 p 0 d) = q (ix3 p h d) := by
  pointwise [hk]

def rowAt (g : Fin 4) (p : Fin 256) : Fin 1024 := ⟨64 * g.val + 256 * (p.val / 64) + p.val % 64, by omega⟩

theorem gq_apply (q : FVec Ideal S1024x1024 .f32) (g : Fin 4) (p : Fin 256) (a : Fin 1024) :
    gq q g (ix2 p a) = q (ix2 (rowAt g p) a) := by
  pointwise [gq]
  split_ifs <;> (congr 2; refine Fin.ext ?_; simp only [rowAt]; omega)

theorem gk_apply (k : FVec Ideal S1024x8x128 .f32) (g : Fin 4) (p : Fin 256) (h : Fin 8) (d : Fin 128) :
    gk k g (ix3 p h d) = k (ix3 (rowAt g p) h d) := by
  pointwise [gk]
  split_ifs <;> (congr 2; refine Fin.ext ?_; simp only [rowAt]; omega)

theorem og_apply (q : FVec Ideal S256x1024 .f32) (k v : FVec Ideal S256x8x128 .f32) (p : Fin 256) (h : Fin 8) (d : Fin 128) :
    og q k v (ix3 p h d) = oh (hq q h) (hk k h) (hk v h) (ix3 p 0 d) := by
  fin_cases h <;> pointwise [og]

theorem mg_apply (q : FVec Ideal S256x1024 .f32) (k : FVec Ideal S256x8x128 .f32) (p : Fin 256) (h : Fin 8) :
    mg q k (ix2 p h) = k0_pay10 (hq q h) (hk k h) (ix2 p 0) := by
  fin_cases h <;> pointwise [mg]

theorem lg_apply (q : FVec Ideal S256x1024 .f32) (k : FVec Ideal S256x8x128 .f32) (p : Fin 256) (h : Fin 8) :
    lg q k (ix2 p h) = k0_pay12 (hq q h) (hk k h) (ix2 p 0) := by
  fin_cases h <;> pointwise [lg]

theorem row_plc (r : Fin 1024) : rowAt (grp r) (plc r) = r := by
  refine Fin.ext ?_
  simp only [rowAt, grp, plc]
  omega

/-- The score of query row `r` and head `h` against the `p`-th key of the row's group. -/
def score (x : FVec Ideal S1x1024x1024 .f32) (wq : FVec Ideal S1024x1024 .f32) (k : FVec Ideal S1x1024x8x128 .f32)
    (r : Fin 1024) (h : Fin 8) (p : Fin 256) : EReal :=
  (∑ d : Fin 128, (∑ b : Fin 1024, x (ix3 0 r b) * wq (ix2 b ⟨128 * h.val + d.val, by omega⟩)) * k (ix4 0 (rowAt (grp r) p) h d)) * sc

theorem group_score (x : FVec Ideal S1x1024x1024 .f32) (wq : FVec Ideal S1024x1024 .f32) (k : FVec Ideal S1x1024x8x128 .f32)
    (r : Fin 1024) (h : Fin 8) (p : Fin 256) :
    k0_pay9 (F := Ideal) (hq (gq (k0_pay1 x wq) (grp r)) h) (hk (gk (k0_pay2 k) (grp r)) h) (ix2 (plc r) p) = score x wq k r h p := by
  rw [score_apply]
  simp only [hq_apply, hk_apply, gq_apply, gk_apply, q_apply, k_apply, row_plc]
  rfl

/-- The row's largest score among the device's keys. -/
def mxOf (x : FVec Ideal S1x1024x1024 .f32) (wq : FVec Ideal S1024x1024 .f32) (k : FVec Ideal S1x1024x8x128 .f32)
    (r : Fin 1024) (h : Fin 8) : EReal := Finset.univ.fold max ⊥ fun p => score x wq k r h p

theorem partS_max (x : FVec Ideal S1x1024x1024 .f32) (wq : FVec Ideal S1024x1024 .f32) (k : FVec Ideal S1x1024x8x128 .f32)
    (r : Fin 1024) (h : Fin 8) (h' : Fin 16) (e : h'.val = h.val) :
    partS (F := Ideal) (k0_pay1 x wq) (k0_pay2 k) (ix2 r h') = mxOf x wq k r h := by
  unfold partS
  have e₁ : ((ix2 r h' : S1024x16.Idx) 1).val < 8 := e ▸ h.isLt
  rw [dif_pos e₁, ← ix2_eq_valueIdx]
  have e₂ : (⟨((ix2 r h' : S1024x16.Idx) 1).val, e₁⟩ : Fin 8) = h := Fin.ext e
  refine (mg_apply _ _ _ _).trans ?_
  rw [e₂, max_apply]
  exact congrArg (fun f => Finset.univ.fold max ⊥ f) (funext fun p => group_score x wq k r h p)

theorem partS_sum (x : FVec Ideal S1x1024x1024 .f32) (wq : FVec Ideal S1024x1024 .f32) (k : FVec Ideal S1x1024x8x128 .f32)
    (r : Fin 1024) (h : Fin 8) (h' : Fin 16) (e : h'.val = 8 + h.val) :
    partS (F := Ideal) (k0_pay1 x wq) (k0_pay2 k) (ix2 r h') = ∑ p, Ideal.exp (score x wq k r h p - mxOf x wq k r h) := by
  unfold partS
  have e₁ : ¬ ((ix2 r h' : S1024x16.Idx) 1).val < 8 := fun hh => by
    have : h'.val < 8 := hh
    omega
  rw [dif_neg e₁, ← ix2_eq_valueIdx]
  refine (lg_apply _ _ _ _).trans ?_
  rw [show (⟨((ix2 r h' : S1024x16.Idx) 1).val - 8, by have : h'.val < 16 := h'.isLt; show h'.val - 8 < 8; omega⟩ : Fin 8) = h from
    Fin.ext (by show h'.val - 8 = h.val; omega), sum_apply]
  refine Finset.sum_congr rfl fun p _ => ?_
  rw [weight_apply, max_apply]
  have hs : (fun p' => k0_pay9 (F := Ideal) (hq (gq (k0_pay1 x wq) (grp r)) h) (hk (gk (k0_pay2 k) (grp r)) h) (ix2 (plc r) p')) = score x wq k r h :=
    funext fun p' => group_score x wq k r h p'
  show Ideal.exp (k0_pay9 (F := Ideal) (hq (gq (k0_pay1 x wq) (grp r)) h) (hk (gk (k0_pay2 k) (grp r)) h) (ix2 (plc r) p)
    - Finset.univ.fold max ⊥ (fun p' => k0_pay9 (F := Ideal) (hq (gq (k0_pay1 x wq) (grp r)) h) (hk (gk (k0_pay2 k) (grp r)) h) (ix2 (plc r) p'))) = _
  rw [hs, group_score]; rfl

theorem partO_at (q : FVec Ideal S1024x1024 .f32) (k v : FVec Ideal S1024x8x128 .f32) (r : Fin 1024) (h : Fin 8) (d : Fin 128) :
    partO q k v (ix3 r h d) = og (gq q (grp r)) (gk k (grp r)) (gk v (grp r)) (ix3 (plc r) h d) := by
  rw [ix3_eq_valueIdx, ix3_eq_valueIdx]
  rfl

theorem partO_apply (x : FVec Ideal S1x1024x1024 .f32) (wq : FVec Ideal S1024x1024 .f32) (k v : FVec Ideal S1x1024x8x128 .f32)
    (r : Fin 1024) (h : Fin 8) (d : Fin 128) :
    partO (F := Ideal) (k0_pay1 x wq) (k0_pay2 k) (k0_pay3 v) (ix3 r h d)
      = ∑ p, Ideal.exp (score x wq k r h p - mxOf x wq k r h) * v (ix4 0 (rowAt (grp r) p) h d) := by
  rw [partO_at]
  refine (og_apply _ _ _ _ _ _).trans ?_
  rw [oh_apply]
  refine Finset.sum_congr rfl fun p _ => ?_
  rw [weight_apply, max_apply]
  have hs : (fun p' => k0_pay9 (F := Ideal) (hq (gq (k0_pay1 x wq) (grp r)) h) (hk (gk (k0_pay2 k) (grp r)) h) (ix2 (plc r) p')) = score x wq k r h :=
    funext fun p' => group_score x wq k r h p'
  show Ideal.exp (k0_pay9 (F := Ideal) (hq (gq (k0_pay1 x wq) (grp r)) h) (hk (gk (k0_pay2 k) (grp r)) h) (ix2 (plc r) p)
    - Finset.univ.fold max ⊥ (fun p' => k0_pay9 (F := Ideal) (hq (gq (k0_pay1 x wq) (grp r)) h) (hk (gk (k0_pay2 k) (grp r)) h) (ix2 (plc r) p')))
      * hk (gk (k0_pay3 (F := Ideal) v) (grp r)) h (ix3 p 0 d) = _
  rw [hs, group_score, hk_apply, gk_apply, v_apply]; rfl

/-- The head of a column, and the column's place in the head. -/
def hdOf (a : Fin 1024) : Fin 8 := ⟨a.val / 128, by omega⟩
def ldOf (a : Fin 1024) : Fin 128 := ⟨a.val % 128, by omega⟩

theorem comb_apply (M L : Fin 8 → FVec Ideal S128x8 .f32) (O : Fin 8 → FVec Ideal S128x8x128 .f32) (wo : FVec Ideal S1024x1024 .f32)
    (i : Fin 128) (n : Fin 1024) :
    comb M L O wo (ix2 i n) = ∑ a : Fin 1024,
      Ideal.div (∑ j, Ideal.exp (M j (ix2 i (hdOf a)) - cMax M (ix2 i (hdOf a))) * O j (ix3 i (hdOf a) (ldOf a)))
        (∑ j, Ideal.exp (M j (ix2 i (hdOf a)) - cMax M (ix2 i (hdOf a))) * L j (ix2 i (hdOf a))) * wo (ix2 a n) := by
  simp only [Fin.sum_univ_eight]
  pointwise [comb, cSum, spread, cScale]
  rfl

end Cert.Run

end
-- ==== Proof.KernelValue.lean ====
/-
# The kernel's result, index by index
-/
module

public import proofs.«01_k».proof.Proof.Run
public import proofs.«01_k».proof.Proof.KernelMath
public import Idealize.ShloMosaic.Lib.Pipeline.ValueKit.Geometry

@[expose] public section

noncomputable section

namespace Cert.Run

open Cert.KernelIdeal Cert.KernelIdeal.Gen
open Idealize.ShloMosaic Idealize.ShloMosaic.TcCoe Idealize.SL.Sem
open Idealize.ShloMosaic (ix1 ix2 ix3 ix4)

/-! ## The arrays behind the windows: each window is the whole of its array -/

section arrays
variable {F : FTy → Type} [FloatOps F] (m : (ℓ : Loc nD τ sig) → Buf (Elt F) ℓ) (c : Dev nD)

theorem xA_eq : xA m c = m ((c.tc : Thread nD τ).loc main_arg0) := by
  funext i
  show m ((c.tc : Thread nD τ).loc main_arg0) ((win0_0.rect t0_0).emb i) = _
  refine congrArg (m ((c.tc : Thread nD τ).loc main_arg0)) (funext fun a => Fin.ext ?_)
  show win0_0.index t0_0 a * win0_0.size a + 1 * (i a).val = (i a).val
  have h : ∀ a, win0_0.index t0_0 a = 0 := by decide
  rw [h]; omega

theorem wqA_eq : wqA m c = m ((c.tc : Thread nD τ).loc main_arg1) := by
  funext i
  show m ((c.tc : Thread nD τ).loc main_arg1) ((win0_1.rect t0_0).emb i) = _
  refine congrArg (m ((c.tc : Thread nD τ).loc main_arg1)) (funext fun a => Fin.ext ?_)
  show win0_1.index t0_0 a * win0_1.size a + 1 * (i a).val = (i a).val
  have h : ∀ a, win0_1.index t0_0 a = 0 := by decide
  rw [h]; omega

theorem kA_eq : kA m c = m ((c.tc : Thread nD τ).loc main_arg2) := by
  funext i
  show m ((c.tc : Thread nD τ).loc main_arg2) ((win0_2.rect t0_0).emb i) = _
  refine congrArg (m ((c.tc : Thread nD τ).loc main_arg2)) (funext fun a => Fin.ext ?_)
  show win0_2.index t0_0 a * win0_2.size a + 1 * (i a).val = (i a).val
  have h : ∀ a, win0_2.index t0_0 a = 0 := by decide
  rw [h]; omega

theorem vA_eq : vA m c = m ((c.tc : Thread nD τ).loc main_arg3) := by
  funext i
  show m ((c.tc : Thread nD τ).loc main_arg3) ((win0_3.rect t0_0).emb i) = _
  refine congrArg (m ((c.tc : Thread nD τ).loc main_arg3)) (funext fun a => Fin.ext ?_)
  show win0_3.index t0_0 a * win0_3.size a + 1 * (i a).val = (i a).val
  have h : ∀ a, win0_3.index t0_0 a = 0 := by decide
  rw [h]; omega

theorem woA_eq : woA m c = m ((c.tc : Thread nD τ).loc main_arg4) := by
  funext i
  show m ((c.tc : Thread nD τ).loc main_arg4) ((win0_4.rect t0_0).emb i) = _
  refine congrArg (m ((c.tc : Thread nD τ).loc main_arg4)) (funext fun a => Fin.ext ?_)
  show win0_4.index t0_0 a * win0_4.size a + 1 * (i a).val = (i a).val
  have h : ∀ a, win0_4.index t0_0 a = 0 := by decide
  rw [h]; omega

theorem finalA_out : finalA m c 5 = outA m :=
  (dats m 0 c).arrAt_eq_of_cover 5 (outA m)
    (fun t _ => by
      obtain rfl := fin_N0 t
      funext i
      show outA m i = outA m ((win0_5.rect t0_0).emb i)
      refine congrArg (outA m) (funext fun a => Fin.ext ?_)
      show (i a).val = win0_5.index t0_0 a * win0_5.size a + 1 * (i a).val
      have h : ∀ a, win0_5.index t0_0 a = 0 := by decide
      rw [h]; omega)
    ((by decide +kernel : (cfg0.win 5).Covers).cover _ (Memref.isWhole_whole _))
end arrays

/-! ## The combination at real scores -/

theorem IsReal.max {x y : EReal} (hx : IsReal x) (hy : IsReal y) : IsReal (max x y) := by
  rcases max_cases x y with ⟨e, _⟩ | ⟨e, _⟩ <;> rw [e] <;> assumption

theorem cMax_real (M : Fin 8 → FVec Ideal S128x8 .f32) (y : S128x8.Idx) (h : ∀ j, IsReal (M j y)) : IsReal (cMax M y) :=
  ((((((((h 0).max (h 1)).max (h 2)).max (h 3)).max (h 4)).max (h 5)).max (h 6)).max (h 7))

theorem mxOf_real (x : FVec Ideal S1x1024x1024 .f32) (wq : FVec Ideal S1024x1024 .f32) (k : FVec Ideal S1x1024x8x128 .f32)
    (r : Fin 1024) (h : Fin 8) (hs : ∀ p, IsReal (score x wq k r h p)) : IsReal (mxOf x wq k r h) := by
  refine fold_max_real _ _ (fun p _ => ?_) (0 : Fin 256) (Finset.mem_univ _) ?_
  · obtain ⟨t, e⟩ := hs p; rw [e]; exact EReal.coe_ne_top t
  · obtain ⟨t, e⟩ := hs 0; rw [e]; exact EReal.coe_ne_bot t

section value
variable (m : (ℓ : Loc nD τ sig) → Buf (Elt Ideal) ℓ)

theorem max_at (j c : Dev nD) (i : Fin 128) (h : Fin 8) (r : Fin 1024) (hr : r.val = 128 * c.val + i.val) :
    sM (rowsS (psA m j) c) (ix2 i h) = mxOf (xA m j) (wqA m j) (kA m j) r h := by
  rw [← partS_max (xA m j) (wqA m j) (kA m j) r h ⟨h.val, by omega⟩ rfl, ix2_eq_valueIdx, ix2_eq_valueIdx]
  exact congrArg (fun r' => psA m j (ValueIdx.ix2 r' ⟨h.val, by omega⟩)) (Fin.ext hr.symm)

theorem sum_at (j c : Dev nD) (i : Fin 128) (h : Fin 8) (r : Fin 1024) (hr : r.val = 128 * c.val + i.val) :
    sL (rowsS (psA m j) c) (ix2 i h)
      = ∑ p, Ideal.exp (score (xA m j) (wqA m j) (kA m j) r h p - mxOf (xA m j) (wqA m j) (kA m j) r h) := by
  rw [← partS_sum (xA m j) (wqA m j) (kA m j) r h ⟨8 + h.val, by omega⟩ rfl, ix2_eq_valueIdx, ix2_eq_valueIdx]
  exact congrArg (fun r' => psA m j (ValueIdx.ix2 r' ⟨8 + h.val, by omega⟩)) (Fin.ext hr.symm)

theorem val_at (j c : Dev nD) (i : Fin 128) (h : Fin 8) (d : Fin 128) (r : Fin 1024) (hr : r.val = 128 * c.val + i.val) :
    rowsO (poA m j) c (ix3 i h d)
      = ∑ p, Ideal.exp (score (xA m j) (wqA m j) (kA m j) r h p - mxOf (xA m j) (wqA m j) (kA m j) r h)
          * vA m j (ix4 0 (rowAt (grp r) p) h d) := by
  rw [← partO_apply (xA m j) (wqA m j) (kA m j) (vA m j) r h d, ix3_eq_valueIdx, ix3_eq_valueIdx]
  exact congrArg (fun r' => poA m j (ValueIdx.ix3 r' h d)) (Fin.ext hr.symm)

/-- The device that computes a row of the result. -/
def devOf (i : Fin 1024) : Dev nD := ⟨i.val / 128, by show _ < 8; omega⟩

theorem outA_at (i n : Fin 1024) :
    outA m (ix3 0 i n) = (CA m).rs (devOf i) (ix2 (ldOf i) n) := by
  rw [ix3_eq_valueIdx, ix2_eq_valueIdx]
  rfl

/-- The kernel's output at real scores: each attended value is the mean of the values over the devices and their keys of the
row's group, weighted by the powers of the scores. -/
theorem out_value (i n : Fin 1024) (s : Fin 8 → Dev nD → Fin 256 → ℝ)
    (hs : ∀ h j p, score (xA m j) (wqA m j) (kA m j) i h p = (s h j p : EReal)) :
    outA m (ix3 0 i n) = ∑ a : Fin 1024, mean (fun y : Dev nD × Fin 256 => Real.exp (s (hdOf a) y.1 y.2))
      (fun y => vA m y.1 (ix4 0 (rowAt (grp i) y.2) (hdOf a) (ldOf a))) * woA m (devOf i) (ix2 a n) := by
  rw [outA_at]
  refine (comb_apply _ _ _ _ _ _).trans (Finset.sum_congr rfl fun a _ => congrArg (· * _) ?_)
  have hr : i.val = 128 * (i.val / 128) + i.val % 128 := by omega
  have hm : ∀ j h, sM (rowsS (psA m j) (devOf i)) (ix2 (ldOf i) h)
      = mxOf (xA m j) (wqA m j) (kA m j) i h := fun j h => max_at m j _ _ h i hr
  have hl := fun j h => sum_at m j (devOf i) (ldOf i) h i hr
  have ho := fun j h d => val_at m j (devOf i) (ldOf i) h d i hr
  have hreal : ∀ j h, IsReal (mxOf (xA m j) (wqA m j) (kA m j) i h) := fun j h =>
    mxOf_real _ _ _ _ _ fun p => ⟨_, hs h j p⟩
  obtain ⟨M, hM⟩ := cMax_real (fun j => sM (rowsS (psA m j) (devOf i)))
    (ix2 (ldOf i) (hdOf a)) (fun j => by rw [hm]; exact hreal j _)
  choose mx hmx using hreal
  rw [hM]
  simp only [hm, hl, ho, hs, hmx]
  exact mean_parts (s (hdOf a)) (fun j => mx j (hdOf a)) M (fun j p => vA m j (ix4 0 (rowAt (grp i) p) (hdOf a) (ldOf a)))

end value

end Cert.Run

end
-- ==== Proof.RefMath.lean ====
module

public import proofs.«01_k».proof.Proof.Gen.ReferenceIdeal.Run
public import proofs.«01_k».proof.Proof.Algebra
public import Idealize.ShloMosaic.Lib.Pointwise

/-! The reference's output, read at one index. -/

@[expose] public section

noncomputable section

namespace Cert.Ref

open Cert.ReferenceIdeal Cert.ReferenceIdeal.Gen
open Idealize.ShloMosaic Idealize.ShloMosaic.TcCoe
open Idealize.ShloMosaic (ix1 ix2 ix3 ix4)

/-! ## The mask -/

/-- The block of each query row: its row number over 64, rounded down. -/
def qb : IVec S1024 32 :=
  (select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32)))))
/-- The block of each key. -/
def kb : IVec S8192 32 :=
  (select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32)))))
/-- The divisor four, as the remainder guards it against zero. -/
def four : IVec S_ 32 := (select (cmpi .eq (id (constantI S_ 32 4#32)) (constantI S_ 32 0#32)) (constantI S_ 32 1#32) (id (constantI S_ 32 4#32)))
def qb1 : IVec S1024x1 32 := broadcastInDim S1024x1 ![0] bcast_S1024_S1024x1_0 qb
def kb1 : IVec S1x8192 32 := broadcastInDim S1x8192 ![1] bcast_S8192_S1x8192_1 kb
/-- The blocks modulo four. -/
def qr : IVec S1024x1 32 :=
  (select (andi (cmpi .ne (cmpi .slt (Host.remsi qb1 (broadcastInDim S1024x1 ![] bcast_S_S1024x1 four)) (broadcastInDim S1024x1 ![] bcast_S_S1024x1 (constantI S_ 32 0#32))) (broadcastInDim S1024x1 ![] bcast_S_S1024x1 (cmpi .slt four (constantI S_ 32 0#32)))) (cmpi .ne (Host.remsi qb1 (broadcastInDim S1024x1 ![] bcast_S_S1024x1 four)) (broadcastInDim S1024x1 ![] bcast_S_S1024x1 (constantI S_ 32 0#32)))) (addi (Host.remsi qb1 (broadcastInDim S1024x1 ![] bcast_S_S1024x1 four)) (broadcastInDim S1024x1 ![] bcast_S_S1024x1 four)) (Host.remsi qb1 (broadcastInDim S1024x1 ![] bcast_S_S1024x1 four)))
def kr : IVec S1x8192 32 :=
  (select (andi (cmpi .ne (cmpi .slt (Host.remsi kb1 (broadcastInDim S1x8192 ![] bcast_S_S1x8192 four)) (broadcastInDim S1x8192 ![] bcast_S_S1x8192 (constantI S_ 32 0#32))) (broadcastInDim S1x8192 ![] bcast_S_S1x8192 (cmpi .slt four (constantI S_ 32 0#32)))) (cmpi .ne (Host.remsi kb1 (broadcastInDim S1x8192 ![] bcast_S_S1x8192 four)) (broadcastInDim S1x8192 ![] bcast_S_S1x8192 (constantI S_ 32 0#32)))) (addi (Host.remsi kb1 (broadcastInDim S1x8192 ![] bcast_S_S1x8192 four)) (broadcastInDim S1x8192 ![] bcast_S_S1x8192 four)) (Host.remsi kb1 (broadcastInDim S1x8192 ![] bcast_S_S1x8192 four)))
/-- The mask: query and key in the same block, or in blocks of the same remainder. -/
def mask : IVec S1024x8192 1 :=
  (ori (cmpi .eq (broadcastInDim S1024x8192 ![0, 1] bcast_S1024x1_S1024x8192_0_1 qb1) (broadcastInDim S1024x8192 ![0, 1] bcast_S1x8192_S1024x8192_0_1 kb1)) (cmpi .eq (broadcastInDim S1024x8192 ![0, 1] bcast_S1x8192_S1024x8192_0_1 kr) (broadcastInDim S1024x8192 ![0, 1] bcast_S1024x1_S1024x8192_0_1 qr)))
/-- Which query rows keep any key. -/
def keepRow (mk : IVec S1024x8192 1) : IVec S1024 1 := (Host.reduce IntOp.ori mk (constantI S_ 1 0#1) reducesTo_S1024x8192_S1024_d1 h_S_)

/-! ## The attention -/

/-- The masked scores. -/
def sco (mk : IVec S1024x8192 1) (x : FVec Ideal S1x1024x1024 .f32) (wq : FVec Ideal S1024x1024 .f32) (k : FVec Ideal S1x8192x8x128 .f32) : FVec Ideal S1x8x1024x8192 .f32 :=
  (select (broadcastInDim S1x8x1024x8192 ![0, 1, 2, 3] bcast_S1x1x1024x8192_S1x8x1024x8192_0_1_2_3 (broadcastInDim S1x1x1024x8192 ![2, 3] bcast_S1024x8192_S1x1x1024x8192_2_3 mk)) (mulf (Host.dotGeneral dot_S1x1024x8x128_S1x8192x8x128_S1x8x1024x8192_3_3_1_1_02_02 none (shapeCast _ (Host.dotGeneral dot_S1x1024x1024_S1024x1024_S1x1024x1024_2_0_01_1_n_n none x wq) shapeCasts_S1x1024x1024_S1x1024x8x128) k) (broadcastInDim S1x8x1024x8192 ![] bcast_S_S1x8x1024x8192 (constant S_ .f32 0x3DB504F3#32))) (broadcastInDim S1x8x1024x8192 ![] bcast_S_S1x8x1024x8192 (id (constant S_ .f32 0xFF800000#32))))
/-- The largest masked score of each row. -/
def rmax (s : FVec Ideal S1x8x1024x8192 .f32) : FVec Ideal S1x8x1024 .f32 :=
  (Host.reduce FloatOps.maximumf s (constant S_ .f32 0xFF800000#32) reducesTo_S1x8x1024x8192_S1x8x1024_d3 h_S_)
/-- The weights: powers of the scores relative to the row's largest. -/
def wts (s : FVec Ideal S1x8x1024x8192 .f32) : FVec Ideal S1x8x1024x8192 .f32 :=
  (Host.exp (subf s (broadcastInDim S1x8x1024x8192 ![0, 1, 2, 3] bcast_S1x8x1024x1_S1x8x1024x8192_0_1_2_3 (broadcastInDim S1x8x1024x1 ![0, 1, 2] bcast_S1x8x1024_S1x8x1024x1_0_1_2 (rmax s)))))
/-- The weights' sums. -/
def wsum (w : FVec Ideal S1x8x1024x8192 .f32) : FVec Ideal S1x8x1024 .f32 :=
  (Host.reduceAdd w (constant S_ .f32 0x00000000#32) reducesTo_S1x8x1024x8192_S1x8x1024_d3 h_S_)
/-- The weights over their sum, rows that keep no key cleared. -/
def prob (kr : IVec S1024 1) (w : FVec Ideal S1x8x1024x8192 .f32) : FVec Ideal S1x8x1024x8192 .f32 :=
  (select (broadcastInDim S1x8x1024x8192 ![0, 1, 2, 3] bcast_S1x1x1024x1_S1x8x1024x8192_0_1_2_3 (broadcastInDim S1x1x1024x1 ![2] bcast_S1024_S1x1x1024x1_2 kr)) (Host.divf w (broadcastInDim S1x8x1024x8192 ![0, 1, 2, 3] bcast_S1x8x1024x1_S1x8x1024x8192_0_1_2_3 (select (broadcastInDim S1x8x1024x1 ![0, 1, 2, 3] bcast_S1x1x1024x1_S1x8x1024x1_0_1_2_3 (broadcastInDim S1x1x1024x1 ![2] bcast_S1024_S1x1x1024x1_2 kr)) (broadcastInDim S1x8x1024x1 ![0, 1, 2] bcast_S1x8x1024_S1x8x1024x1_0_1_2 (wsum w)) (broadcastInDim S1x8x1024x1 ![] bcast_S_S1x8x1024x1 (id (constant S_ .f32 0x3F800000#32)))))) (broadcastInDim S1x8x1024x8192 ![] bcast_S_S1x8x1024x8192 (id (constant S_ .f32 0x00000000#32))))
/-- The projected attention. -/
def res (p : FVec Ideal S1x8x1024x8192 .f32) (v : FVec Ideal S1x8192x8x128 .f32) (wo : FVec Ideal S1024x1024 .f32) : FVec Ideal S1x1024x1024 .f32 :=
  Host.dotGeneral dot_S1x1024x1024_S1024x1024_S1x1024x1024_2_0_01_1_n_n none (shapeCast S1x1024x1024 (transpose S1x1024x8x128 [0, 3, 1, 2] (Host.dotGeneral dot_S1x8192x8x128_S1x8x1024x8192_S1x8x128x1024_1_3_3_2_02_01 none v p) transposes_S1x8x128x1024_S1x1024x8x128_0_3_1_2) shapeCasts_S1x1024x8x128_S1x1024x1024) wo

theorem res_eq (m : (ℓ : Loc nD τ sig) → Buf (Elt Ideal) ℓ) (c : Dev nD) :
    Cert.ReferenceIdeal.Value.res_main_v39 m c =
      res (prob (keepRow mask) (wts (sco mask (m ((c.tc : Thread nD τ).loc main_arg0)) (m ((c.tc : Thread nD τ).loc main_arg1)) (m ((c.tc : Thread nD τ).loc main_arg2)))))
        (m ((c.tc : Thread nD τ).loc main_arg3)) (m ((c.tc : Thread nD τ).loc main_arg4)) := rfl

/-! ## The mask read -/

/-- A word's sign. -/
def sgn (w : BitVec 32) : BitVec 32 := if w = 0 then 0 else if w.msb = true then -1 else 1

/-- A word over 64, rounded down, as the program writes it. -/
def over64 (w : BitVec 32) : BitVec 32 :=
  Scalar.select (IntOp.andi (IntOp.cmpi .ne (sgn w) (sgn 64#32)) (IntOp.cmpi .ne (IntOp.remsi .host w 64#32) 0#32))
    (IntOp.subi (IntOp.divsi .host w 64#32) 1#32) (IntOp.divsi .host w 64#32)

/-- A word modulo four, as the program writes it. -/
def mod4 (w : BitVec 32) : BitVec 32 :=
  let f : BitVec 32 := Scalar.select (IntOp.cmpi .eq 4#32 0#32) 1#32 4#32
  Scalar.select (IntOp.andi (IntOp.cmpi .ne (IntOp.cmpi .slt (IntOp.remsi .host w f) 0#32) (IntOp.cmpi .slt f 0#32))
    (IntOp.cmpi .ne (IntOp.remsi .host w f) 0#32)) (IntOp.addi (IntOp.remsi .host w f) f) (IntOp.remsi .host w f)

theorem over64_pair : ∀ a : Fin 128, ∀ b : Fin 64, over64 (BitVec.ofNat 32 (64 * a.val + b.val)) = BitVec.ofNat 32 a.val := by
  decide +kernel

theorem over64_eq (n : ℕ) (hn : n < 8192) : over64 (BitVec.ofNat 32 n) = BitVec.ofNat 32 (n / 64) := by
  have h := over64_pair ⟨n / 64, by omega⟩ ⟨n % 64, by omega⟩
  rwa [show 64 * (n / 64) + n % 64 = n by omega] at h

theorem mod4_all : ∀ a : Fin 128, mod4 (BitVec.ofNat 32 a.val) = BitVec.ofNat 32 (a.val % 4) := by
  decide +kernel

theorem qb_apply (i : Fin 1024) : qb (ix1 i) = BitVec.ofNat 32 (i.val / 64) := by
  refine Eq.trans ?_ (over64_eq i.val (by omega))
  pointwise [qb]
  rfl

theorem kb_apply (i : Fin 8192) : kb (ix1 i) = BitVec.ofNat 32 (i.val / 64) := by
  refine Eq.trans ?_ (over64_eq i.val (by omega))
  pointwise [kb]
  rfl

theorem qr_apply (i : Fin 1024) (z : Fin 1) : qr (ix2 i z) = BitVec.ofNat 32 (i.val / 64 % 4) := by
  refine Eq.trans ?_ (mod4_all ⟨i.val / 64, by omega⟩)
  pointwise [qr, qb1, four]
  rw [qb_apply]
  rfl

theorem kr_apply (z : Fin 1) (i : Fin 8192) : kr (ix2 z i) = BitVec.ofNat 32 (i.val / 64 % 4) := by
  refine Eq.trans ?_ (mod4_all ⟨i.val / 64, by omega⟩)
  pointwise [kr, kb1, four]
  rw [kb_apply]
  rfl

theorem cmpi_eq (a b : ℕ) (ha : a < 8192) (hb : b < 8192) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; simp
  · have hne : BitVec.ofNat 32 a ≠ BitVec.ofNat 32 b := fun e => h (by
      have := congrArg BitVec.toNat e
      simp only [BitVec.toNat_ofNat] at this
      omega)
    rw [if_neg h, beq_eq_false_iff_ne.2 hne]; rfl

theorem mask_apply (i : Fin 1024) (k : Fin 8192) : mask (ix2 i k) = if k.val / 64 % 4 = i.val / 64 % 4 then 1#1 else 0#1 := by
  pointwise [mask, qb1, kb1]
  rw [qb_apply, kb_apply, qr_apply, kr_apply, cmpi_eq _ _ (by omega) (by omega), cmpi_eq _ _ (by omega) (by omega)]
  split_ifs <;> first | rfl | omega

theorem fold_ori {ι : Type*} (s : Finset ι) (f : ι → BitVec 1) (i : ι) (hi : i ∈ s) (h : f i = 1#1) : s.fold IntOp.ori 0#1 f = 1#1 := by
  classical
  rw [← Finset.insert_erase hi, Finset.fold_insert (Finset.notMem_erase i s), h]
  exact (show ∀ b : BitVec 1, IntOp.ori 1#1 b = 1#1 by decide) _

theorem keep_apply (mk : IVec S1024x8192 1) (i : Fin 1024) (k : Fin 8192) (h : mk (ix2 i k) = 1#1) : keepRow mk (ix1 i) = 1#1 := by
  pointwise [keepRow]
  exact fold_ori _ _ k (Finset.mem_univ _) h

/-! ## The attention read -/

/-- The score of query row `i` and head `h` against key `j`. -/
def rscore (x : FVec Ideal S1x1024x1024 .f32) (wq : FVec Ideal S1024x1024 .f32) (k : FVec Ideal S1x8192x8x128 .f32)
    (i : Fin 1024) (h : Fin 8) (j : Fin 8192) : EReal :=
  (∑ d : Fin 128, (∑ b : Fin 1024, x (ix3 0 i b) * wq (ix2 b ⟨128 * h.val + d.val, by omega⟩)) * k (ix4 0 j h d)) * Run.sc

theorem sco_apply (mk : IVec S1024x8192 1) (x : FVec Ideal S1x1024x1024 .f32) (wq : FVec Ideal S1024x1024 .f32) (k : FVec Ideal S1x8192x8x128 .f32)
    (h : Fin 8) (i : Fin 1024) (j : Fin 8192) :
    sco mk x wq k (ix4 0 h i j) = Scalar.select (mk (ix2 i j)) (rscore x wq k i h j) ⊥ := by
  pointwise [sco, id, Run.ofBits_ninf]
  simp only [rscore, Run.sc, Nat.mul_comm]

theorem rmax_apply (s : FVec Ideal S1x8x1024x8192 .f32) (h : Fin 8) (i : Fin 1024) :
    rmax s (ix3 0 h i) = Finset.univ.fold max ⊥ fun j => s (ix4 0 h i j) := by
  pointwise [rmax]
  rw [Run.ofBits_ninf]

theorem wts_apply (s : FVec Ideal S1x8x1024x8192 .f32) (h : Fin 8) (i : Fin 1024) (j : Fin 8192) :
    wts s (ix4 0 h i j) = Ideal.exp (s (ix4 0 h i j) - rmax s (ix3 0 h i)) := by
  pointwise [wts]

theorem wsum_apply (s : FVec Ideal S1x8x1024x8192 .f32) (h : Fin 8) (i : Fin 1024) :
    wsum s (ix3 0 h i) = ∑ j, s (ix4 0 h i j) := by
  pointwise [wsum]

theorem prob_apply (kr : IVec S1024 1) (w : FVec Ideal S1x8x1024x8192 .f32) (h : Fin 8) (i : Fin 1024) (j : Fin 8192)
    (hk : kr (ix1 i) = 1#1) : prob kr w (ix4 0 h i j) = Ideal.div (w (ix4 0 h i j)) (∑ j', w (ix4 0 h i j')) := by
  rw [← wsum_apply]
  pointwise [prob]
  have hsel : ∀ a b : EReal, Scalar.select 1#1 a b = a := fun _ _ => rfl
  rw [hk, hsel, hsel]

theorem res_apply (p : FVec Ideal S1x8x1024x8192 .f32) (v : FVec Ideal S1x8192x8x128 .f32) (wo : FVec Ideal S1024x1024 .f32) (i : Fin 1024) (n : Fin 1024) :
    res p v wo (ix3 0 i n) = ∑ a : Fin 1024, (∑ j : Fin 8192, v (ix4 0 j ⟨a.val / 128, by omega⟩ ⟨a.val % 128, by omega⟩)
      * p (ix4 0 ⟨a.val / 128, by omega⟩ i j)) * wo (ix2 a n) := by
  pointwise [res]

/-- The reference's output at real scores: each attended value is the mean of the values over the kept keys, weighted by
the powers of the scores. -/
theorem value (x : FVec Ideal S1x1024x1024 .f32) (wq : FVec Ideal S1024x1024 .f32) (k v : FVec Ideal S1x8192x8x128 .f32)
    (wo : FVec Ideal S1024x1024 .f32) (i n : Fin 1024) (s : Fin 8 → Fin 8192 → ℝ) (hs : ∀ h j, rscore x wq k i h j = (s h j : EReal)) :
    res (prob (keepRow mask) (wts (sco mask x wq k))) v wo (ix3 0 i n)
      = ∑ a : Fin 1024, Run.mean (fun j : Fin 8192 => if j.val / 64 % 4 = i.val / 64 % 4 then Real.exp (s ⟨a.val / 128, by omega⟩ j) else 0)
          (fun j => v (ix4 0 j ⟨a.val / 128, by omega⟩ ⟨a.val % 128, by omega⟩)) * wo (ix2 a n) := by
  have hself : mask (ix2 i ⟨i.val, by omega⟩) = 1#1 := by rw [mask_apply]; exact if_pos rfl
  have hkeep := keep_apply mask i _ hself
  have hsc : ∀ h j, sco mask x wq k (ix4 0 h i j) = if j.val / 64 % 4 = i.val / 64 % 4 then (s h j : EReal) else ⊥ := fun h j => by
    rw [sco_apply, mask_apply, hs]
    split_ifs <;> rfl
  rw [res_apply]
  refine Finset.sum_congr rfl fun a _ => congrArg (· * wo (ix2 a n)) ?_
  have hmax : ∃ M : ℝ, rmax (sco mask x wq k) (ix3 0 ⟨a.val / 128, by omega⟩ i) = (M : EReal) := by
    rw [rmax_apply]
    refine Run.fold_max_real _ _ (fun j _ => ?_) ⟨i.val, by omega⟩ (Finset.mem_univ _) ?_
    · rw [hsc]; split_ifs <;> simp
    · rw [hsc, if_pos rfl]; simp
  obtain ⟨M, hM⟩ := hmax
  rw [← Run.mean_masked (fun j : Fin 8192 => j.val / 64 % 4 = i.val / 64 % 4) (s ⟨a.val / 128, by omega⟩) M _ ⟨i.val, by omega⟩ rfl]
  refine Finset.sum_congr rfl fun j _ => congrArg (_ * ·) ?_
  rw [prob_apply _ _ _ _ _ hkeep]
  simp only [wts_apply, hsc, hM]

end Cert.Ref

end
-- ==== Proof.Meet.lean ====
/-
# The kernel's result is the reference's
-/
module

public import proofs.«01_k».proof.Defs
public import proofs.«01_k».proof.Proof.KernelValue
public import proofs.«01_k».proof.Proof.RefMath

@[expose] public section

noncomputable section

namespace Cert.Meet

open Idealize.ShloMosaic Idealize.ShloMosaic.TcCoe Idealize.SL.Sem
open Idealize.ShloMosaic (ix1 ix2 ix3 ix4)
open Cert.Run

/-! ## The precondition read -/

instance preKernel : Cert.Pre_finite_inputs_KernelIdeal.Facts := ⟨by decide, by decide, by decide⟩
instance preReference : Cert.Pre_finite_inputs_ReferenceIdeal.Facts := ⟨by decide, by decide, by decide⟩

theorem ofBits_inf : Ideal.ofBits .f32 0x7F800000#32 = ⊤ := by simp [Ideal.ofBits, Ideal.ieee]

theorem real_of_bits (x : EReal) (hb : Ideal.cmp .ogt x ⊥ = 1#1) (ht : Ideal.cmp .olt x ⊤ = 1#1) : IsReal x := by
  refine IsReal.of_ne ?_ ?_
  · rintro rfl; simp [Ideal.cmp] at ht
  · rintro rfl; simp [Ideal.cmp] at hb

section pre
variable (m : (ℓ : Loc Cert.KernelIdeal.nD Cert.KernelIdeal.τ Cert.KernelIdeal.sig) → Buf (Elt Ideal) ℓ)
  (h : Pre_KernelIdeal_finite_inputs_KernelIdeal m) (c : Dev Cert.KernelIdeal.nD)
include h

theorem x_real (i : Cert.KernelIdeal.S1x1024x1024.Idx) : IsReal (xA m c i) := by
  rw [xA_eq]
  refine real_of_bits _ ?_ ?_
  · have := congrFun (h c).1 i
    rw [← ofBits_ninf]; exact this
  · have := congrFun (h c).2.1 i
    rw [← ofBits_inf]; exact this

theorem wq_real (i : Cert.KernelIdeal.S1024x1024.Idx) : IsReal (wqA m c i) := by
  rw [wqA_eq]
  refine real_of_bits _ ?_ ?_
  · have := congrFun (h c).2.2.1 i
    rw [← ofBits_ninf]; exact this
  · have := congrFun (h c).2.2.2.1 i
    rw [← ofBits_inf]; exact this

theorem k_real (i : Cert.KernelIdeal.S1x1024x8x128.Idx) : IsReal (kA m c i) := by
  rw [kA_eq]
  refine real_of_bits _ ?_ ?_
  · have := congrFun (h c).2.2.2.2.1 i
    rw [← ofBits_ninf]; exact this
  · have := congrFun (h c).2.2.2.2.2 i
    rw [← ofBits_inf]; exact this

theorem score_real (r : Fin 1024) (hh : Fin 8) (p : Fin 256) : IsReal (score (xA m c) (wqA m c) (kA m c) r hh p) :=
  (IsReal.sum _ _ fun _ => (IsReal.sum _ _ fun _ => (x_real m h c _).mul (wq_real m h c _)).mul (k_real m h c _)).mul sc_real

end pre

/-! ## The keys of a row's group, listed by device -/

/-- The place in the whole key array of a device's `p`-th key of the group. -/
def keyAt (g : Fin 4) (y : Fin 8 × Fin 256) : Fin 8192 := ⟨1024 * y.1.val + (rowAt g y.2).val, by omega⟩

theorem keyAt_val (g : Fin 4) (y : Fin 8 × Fin 256) :
    (keyAt g y).val = 1024 * y.1.val + (64 * g.val + 256 * (y.2.val / 64) + y.2.val % 64) := rfl

theorem keyAt_inj (g : Fin 4) : Function.Injective (keyAt g) := fun y z e => by
  have e' := congrArg Fin.val e
  rw [keyAt_val, keyAt_val] at e'
  refine Prod.ext (Fin.ext ?_) (Fin.ext ?_) <;> omega

theorem keyAt_mem (i : Fin 1024) (k : Fin 8192) : k.val / 64 % 4 = i.val / 64 % 4 ↔ ∃ y, keyAt (grp i) y = k := by
  constructor
  · intro hk
    refine ⟨(⟨k.val / 1024, by omega⟩, ⟨64 * (k.val % 1024 / 256) + k.val % 64, by omega⟩), Fin.ext ?_⟩
    rw [keyAt_val]
    simp only [grp]
    omega
  · rintro ⟨y, rfl⟩
    rw [keyAt_val]
    simp only [grp]
    omega

/-- A device's block of keys or values, read in the whole array. -/
theorem block_at (c : Fin 8) (v : (⟨4, ![1, 8192, 8, 128]⟩ : Shape).Idx → EReal) (r : Fin 1024) (hh : Fin 8) (d : Fin 128)
    (k : Fin 8192) (hk : k.val = 1024 * c.val + r.val) :
    Layout.block ⟨4, ![1, 1024, 8, 128]⟩ ⟨4, ![1, 8192, 8, 128]⟩ 1 8 c v (by decide) (ix4 0 r hh d) = v (ix4 0 k hh d) := by
  rw [Layout.block_apply]
  refine congrArg v ?_
  rw [ix4_eq_valueIdx, ix4_eq_valueIdx]
  funext a
  refine Fin.ext ?_
  rw [Layout.Tiles.idx_val]
  fin_cases a
  · rfl
  · show c.val * 1024 + r.val = k.val
    omega
  · rfl
  · rfl

theorem value_eq (m : (ℓ : Loc Cert.KernelIdeal.nD Cert.KernelIdeal.τ Cert.KernelIdeal.sig) → Buf (Elt Ideal) ℓ)
    (h : Pre_KernelIdeal_finite_inputs_KernelIdeal m)
    (x : FVec Ideal Cert.ReferenceIdeal.S1x1024x1024 .f32) (wq wo : FVec Ideal Cert.ReferenceIdeal.S1024x1024 .f32)
    (k v : FVec Ideal Cert.ReferenceIdeal.S1x8192x8x128 .f32)
    (hx : ∀ c, xA m c = x) (hwq : ∀ c, wqA m c = wq) (hwo : ∀ c, woA m c = wo)
    (hk : ∀ c : Fin 8, kA m c = Layout.block ⟨4, ![1, 1024, 8, 128]⟩ ⟨4, ![1, 8192, 8, 128]⟩ 1 8 c k)
    (hv : ∀ c : Fin 8, vA m c = Layout.block ⟨4, ![1, 1024, 8, 128]⟩ ⟨4, ![1, 8192, 8, 128]⟩ 1 8 c v) :
    outA m = Ref.res (Ref.prob (Ref.keepRow Ref.mask) (Ref.wts (Ref.sco Ref.mask x wq k))) v wo := by
  -- a score of the reference is the score on the device that holds the key
  have hsc : ∀ (i : Fin 1024) (hh : Fin 8) (y : Fin 8 × Fin 256),
      Ref.rscore x wq k i hh (keyAt (grp i) y) = score (xA m y.1) (wqA m y.1) (kA m y.1) i hh y.2 := fun i hh y => by
    unfold Ref.rscore score
    rw [hx, hwq, hk]
    refine congrArg (· * sc) (Finset.sum_congr rfl fun d _ => congrArg (_ * ·) ?_)
    exact (block_at y.1 k _ hh d _ rfl).symm
  -- every score of the reference is real
  have hreal : ∀ (i : Fin 1024) (hh : Fin 8) (j : Fin 8192), IsReal (Ref.rscore x wq k i hh j) := fun i hh j => by
    refine (IsReal.sum _ _ fun d => (IsReal.sum _ _ fun b => ?_).mul ?_).mul sc_real
    · refine IsReal.mul ?_ ?_
      · rw [← hx 0]; exact x_real m h 0 _
      · rw [← hwq 0]; exact wq_real m h 0 _
    · rw [← block_at ⟨j.val / 1024, by omega⟩ k ⟨j.val % 1024, by omega⟩ hh d j (by show j.val = 1024 * (j.val / 1024) + j.val % 1024; omega), ← hk]
      exact k_real m h _ _
  choose s hs using hreal
  have key : ∀ i n : Fin 1024, outA m (ix3 0 i n)
      = Ref.res (Ref.prob (Ref.keepRow Ref.mask) (Ref.wts (Ref.sco Ref.mask x wq k))) v wo (ix3 0 i n) := fun i n => by
    rw [Ref.value x wq k v wo i n (s i) (hs i),
      out_value m i n (fun hh j p => s i hh (keyAt (grp i) (j, p))) fun hh j p => by rw [← hsc i hh (j, p), hs]]
    refine Finset.sum_congr rfl fun a _ => ?_
    rw [hwo, mean_listed (fun j : Fin 8192 => j.val / 64 % 4 = i.val / 64 % 4) (keyAt (grp i)) (keyAt_inj _) (keyAt_mem i)
      (fun j => Real.exp (s i ⟨a.val / 128, by omega⟩ j))]
    refine congrArg (· * wo (ix2 a n)) (congrArg (mean _) (funext fun y => ?_))
    rw [hv]
    exact block_at y.1 v _ _ _ _ rfl
  funext y
  have hy : y = ix3 0 (y 1) (y 2) := by
    rw [ix3_eq_valueIdx]
    funext a
    match a with
    | ⟨0, _⟩ => exact Fin.ext (by have := (y 0).isLt; show (y 0).val = 0; change (y 0).val < 1 at this; omega)
    | ⟨1, _⟩ => rfl
    | ⟨2, _⟩ => rfl
  rw [hy]
  exact key (y 1) (y 2)

/-- The kernel computes the reference's result. -/
theorem algebraic : Cert.algebraic_KernelIdeal_ReferenceIdeal_pre_finite_inputs_KernelIdeal := fun m g m' g' h hin =>
  ⟨Cert.ReferenceIdeal.Value.res_main_v39 m' 0,
   (θ_run _ _ _).mono (fun r hr c =>
      let e := finalA_in m c
      ⟨((hr.1 c 5).trans (finalA_out m c)).trans ((value_eq m h _ _ _ _ _
          (fun c => (xA_eq m c).trans (hin c).1) (fun c => (wqA_eq m c).trans (hin c).2.1) (fun c => (woA_eq m c).trans (hin c).2.2.2.2)
          (fun c => (kA_eq m c).trans (hin c).2.2.1) (fun c => (vA_eq m c).trans (hin c).2.2.2.1)).trans (Ref.res_eq m' 0).symm),
        (hr.1 c 0).trans e.1, (hr.1 c 1).trans e.2.1, (hr.1 c 2).trans e.2.2.1, (hr.1 c 3).trans e.2.2.2.1, (hr.1 c 4).trans e.2.2.2.2⟩)
    (Cert.Run.run_main (F := Ideal) m g),
   (θ_run _ _ _).mono (fun r hr => hr 0) (Cert.ReferenceIdeal.Value.run (F := Ideal) m' g')⟩

end Cert.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The kernel, over words: it ends, with its arguments as they were and every counter at zero. -/
theorem frame_kernel : Cert.quiescent_Kernel := fun m g _ =>
  Cert.Run.run_same _ (Cert.Run.run_frame (F := Bits) m g)

/-- The same over the extended reals. -/
theorem frame_ideal : Cert.quiescent_KernelIdeal := fun m g _ => Cert.Run.run_frame (F := Ideal) m g

/-- The reference ends, with its arguments as they were and every counter at zero. -/
theorem frame_reference : Cert.quiescent_ReferenceIdeal := fun m g _ =>
  (θ_run Cert.ReferenceIdeal.defs _ _).mono
    (fun _ h => ⟨fun c => (h c).2, Idealize.ShloMosaic.sem_eq_zero_of_no_sems (by decide) _⟩)
    (Cert.ReferenceIdeal.Value.run (F := Ideal) m g)

/-- The two runs of the ideal programs, stated again under the precondition, which they do not need. -/
theorem frame_ideal_pre : Cert.quiescent_KernelIdeal_pre_finite_inputs_KernelIdeal := fun m g _ => frame_ideal m g trivial
theorem frame_reference_pre : Cert.quiescent_ReferenceIdeal_pre_finite_inputs_ReferenceIdeal := fun m g _ => frame_reference m g trivial

theorem claim : Cert.Claim := ⟨Cert.Kernel.Gen.facts, Cert.KernelIdeal.Gen.facts, Cert.ReferenceIdeal.Gen.facts,
  Cert.Meet.preKernel, Cert.Meet.preReference,
  frame_kernel, frame_ideal, frame_ideal_pre, frame_reference, frame_reference_pre, trivial, Cert.Meet.algebraic⟩

end Cert.Proof

end
